-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x4x2x16384x128 : Shape := ⟨5, ![2, 4, 2, 16384, 128]⟩
abbrev S2x4x16384x256 : Shape := ⟨4, ![2, 4, 16384, 256]⟩
abbrev S1x128 : Shape := ⟨2, ![1, 128]⟩
abbrev S1x256 : Shape := ⟨2, ![1, 256]⟩
abbrev S_ : Shape := ⟨0, ![]⟩

class Facts : Prop where
  bcast_S_S2x4x2x16384x128 : S_.BroadcastsInDim S2x4x2x16384x128 (![] : Fin 0 → Fin S2x4x2x16384x128.rank)
  bcast_S_S2x4x16384x256 : S_.BroadcastsInDim S2x4x16384x256 (![] : Fin 0 → Fin S2x4x16384x256.rank)
  bcast_S_S1x128 : S_.BroadcastsInDim S1x128 (![] : Fin 0 → Fin S1x128.rank)

variable [Facts]

def fn_part1 {F : FTy → Type} [FloatOps F] (main_arg6 : FVec F S1x128 .f32) (main_v2 : IVec S2x4x2x16384x128 1) (main_v5 : IVec S2x4x2x16384x128 1) (main_v8 : IVec S2x4x16384x256 1) (main_v11 : IVec S1x128 1) (main_v14 : IVec S1x128 1) (main_v17 : IVec S1x128 1) : IVec S2x4x2x16384x128 1 × IVec S2x4x2x16384x128 1 × IVec S2x4x16384x256 1 × IVec S1x128 1 × IVec S1x128 1 × IVec S1x128 1 × IVec S1x128 1 :=
  let main_v18 : FVec F S1x128 .f32 := Host.absf main_arg6
  let main_cst_5 : FVec F S_ .f32 := constant S_ .f32 0x7F800000#32
  let main_v19 : FVec F S1x128 .f32 := broadcastInDim S1x128 ![] bcast_S_S1x128 main_cst_5
  let main_v20 : IVec S1x128 1 := cmpf .olt main_v18 main_v19
  (main_v2, main_v5, main_v8, main_v11, main_v14, main_v17, main_v20)

def fn {F : FTy → Type} [FloatOps F] (main_arg0 : FVec F S2x4x2x16384x128 .f32) (main_arg1 : FVec F S2x4x2x16384x128 .f32) (main_arg2 : FVec F S2x4x16384x256 .f32) (main_arg3 : FVec F S1x128 .f32) (main_arg4 : FVec F S1x128 .f32) (main_arg5 : FVec F S1x128 .f32) (main_arg6 : FVec F S1x128 .f32) (main_arg7 : FVec F S1x256 .f32) : IVec S2x4x2x16384x128 1 × IVec S2x4x2x16384x128 1 × IVec S2x4x16384x256 1 × IVec S1x128 1 × IVec S1x128 1 × IVec S1x128 1 × IVec S1x128 1 :=
  let main_v0 : FVec F S2x4x2x16384x128 .f32 := Host.absf main_arg0
  let main_cst : FVec F S_ .f32 := constant S_ .f32 0x7F800000#32
  let main_v1 : FVec F S2x4x2x16384x128 .f32 := broadcastInDim S2x4x2x16384x128 ![] bcast_S_S2x4x2x16384x128 main_cst
  let main_v2 : IVec S2x4x2x16384x128 1 := cmpf .olt main_v0 main_v1
  let main_v3 : FVec F S2x4x2x16384x128 .f32 := Host.absf main_arg1
  let main_cst_0 : FVec F S_ .f32 := constant S_ .f32 0x7F800000#32
  let main_v4 : FVec F S2x4x2x16384x128 .f32 := broadcastInDim S2x4x2x16384x128 ![] bcast_S_S2x4x2x16384x128 main_cst_0
  let main_v5 : IVec S2x4x2x16384x128 1 := cmpf .olt main_v3 main_v4
  let main_v6 : FVec F S2x4x16384x256 .f32 := Host.absf main_arg2
  let main_cst_1 : FVec F S_ .f32 := constant S_ .f32 0x7F800000#32
  let main_v7 : FVec F S2x4x16384x256 .f32 := broadcastInDim S2x4x16384x256 ![] bcast_S_S2x4x16384x256 main_cst_1
  let main_v8 : IVec S2x4x16384x256 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S1x128 .f32 := Host.absf main_arg5
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  fn_part1 (F := F) main_arg6 main_v2 main_v5 main_v8 main_v11 main_v14 main_v17
-- ==== Kernel.lean ====
abbrev S2x4x2x16384x128 : Shape := ⟨5, ![2, 4, 2, 16384, 128]⟩
abbrev S2x4x16384x256 : Shape := ⟨4, ![2, 4, 16384, 256]⟩
abbrev S1x128 : Shape := ⟨2, ![1, 128]⟩
abbrev S1x256 : Shape := ⟨2, ![1, 256]⟩
abbrev S_ : Shape := ⟨0, ![]⟩
abbrev S4x2x2x16384x128 : Shape := ⟨5, ![4, 2, 2, 16384, 128]⟩
abbrev S8x32768x128 : Shape := ⟨3, ![8, 32768, 128]⟩
abbrev S8x128x32768 : Shape := ⟨3, ![8, 128, 32768]⟩
abbrev S2x4x16384x2x128 : Shape := ⟨5, ![2, 4, 16384, 2, 128]⟩
abbrev S4x2x128x2x16384 : Shape := ⟨5, ![4, 2, 128, 2, 16384]⟩
abbrev S8x1x32768 : Shape := ⟨3, ![8, 1, 32768]⟩
abbrev S8x15x32768 : Shape := ⟨3, ![8, 15, 32768]⟩
abbrev S8x144x32768 : Shape := ⟨3, ![8, 144, 32768]⟩
abbrev S128 : Shape := ⟨1, ![128]⟩
abbrev S256 : Shape := ⟨1, ![256]⟩
abbrev S256x1 : Shape := ⟨2, ![256, 1]⟩
abbrev S32768x1024 : Shape := ⟨2, ![32768, 1024]⟩
abbrev S1x128x1024 : Shape := ⟨3, ![1, 128, 1024]⟩
abbrev S1x16384x128 : Shape := ⟨3, ![1, 16384, 128]⟩
abbrev S1x144x16384 : Shape := ⟨3, ![1, 144, 16384]⟩
abbrev S1024x256 : Shape := ⟨2, ![1024, 256]⟩
abbrev S8x272x256 : Shape := ⟨3, ![8, 272, 256]⟩
abbrev S1x128x256 : Shape := ⟨3, ![1, 128, 256]⟩
abbrev S128x256 : Shape := ⟨2, ![128, 256]⟩
abbrev S256x256 : Shape := ⟨2, ![256, 256]⟩
abbrev S1x256x128 : Shape := ⟨3, ![1, 256, 128]⟩
abbrev S256x128 : Shape := ⟨2, ![256, 128]⟩
abbrev S32x8x256 : Shape := ⟨3, ![32, 8, 256]⟩
abbrev S8x256 : Shape := ⟨2, ![8, 256]⟩
abbrev S128x1024 : Shape := ⟨2, ![128, 1024]⟩
abbrev S1x144x1024 : Shape := ⟨3, ![1, 144, 1024]⟩
abbrev S144x1024 : Shape := ⟨2, ![144, 1024]⟩
abbrev S272x1024 : Shape := ⟨2, ![272, 1024]⟩
abbrev S272x256 : Shape := ⟨2, ![272, 256]⟩
abbrev S1x272x256 : Shape := ⟨3, ![1, 272, 256]⟩
abbrev S768x256 : Shape := ⟨2, ![768, 256]⟩
abbrev S1x128x768 : Shape := ⟨3, ![1, 128, 768]⟩
abbrev S128x768 : Shape := ⟨2, ![128, 768]⟩
abbrev S1x144x768 : Shape := ⟨3, ![1, 144, 768]⟩
abbrev S144x768 : Shape := ⟨2, ![144, 768]⟩
abbrev S272x768 : Shape := ⟨2, ![272, 768]⟩
abbrev S512x256 : Shape := ⟨2, ![512, 256]⟩
abbrev S1x128x512 : Shape := ⟨3, ![1, 128, 512]⟩
abbrev S128x512 : Shape := ⟨2, ![128, 512]⟩
abbrev S1x144x512 : Shape := ⟨3, ![1, 144, 512]⟩
abbrev S144x512 : Shape := ⟨2, ![144, 512]⟩
abbrev S272x512 : Shape := ⟨2, ![272, 512]⟩
abbrev S1x144x256 : Shape := ⟨3, ![1, 144, 256]⟩
abbrev S144x256 : Shape := ⟨2, ![144, 256]⟩
abbrev S1 : Shape := ⟨1, ![1]⟩
abbrev S1x1 : Shape := ⟨2, ![1, 1]⟩

abbrev nBuf : Space → Nat
  | .hbm => 42
  | .vmem => 28
  | .smem => 0
  | _ => 0

abbrev bufTy : (tb : Table) → Fin (tcTables nBuf tb) → BufTy
  | .hbm, ⟨0, _⟩ => ⟨S2x4x2x16384x128, .f32⟩
  | .hbm, ⟨1, _⟩ => ⟨S2x4x2x16384x128, .f32⟩
  | .hbm, ⟨2, _⟩ => ⟨S2x4x16384x256, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2x2x16384x128, .f32⟩
  | .hbm, ⟨14, _⟩ => ⟨S8x32768x128, .f32⟩
  | .hbm, ⟨15, _⟩ => ⟨S8x32768x128, .f32⟩
  | .hbm, ⟨16, _⟩ => ⟨S8x32768x128, .f32⟩
  | .hbm, ⟨17, _⟩ => ⟨S8x128x32768, .f32⟩
  | .hbm, ⟨18, _⟩ => ⟨S8x128x32768, .bf16⟩
  | .hbm, ⟨19, _⟩ => ⟨S4x2x2x16384x128, .f32⟩
  | .hbm, ⟨20, _⟩ => ⟨S8x32768x128, .f32⟩
  | .hbm, ⟨21, _⟩ => ⟨S8x32768x128, .bf16⟩
  | .hbm, ⟨22, _⟩ => ⟨S2x4x16384x2x128, .f32⟩
  | .hbm, ⟨23, _⟩ => ⟨S4x2x128x2x16384, .f32⟩
  | .hbm, ⟨24, _⟩ => ⟨S8x128x32768, .f32⟩
  | .hbm, ⟨25, _⟩ => ⟨S_, .bf16⟩
  | .hbm, ⟨26, _⟩ => ⟨S8x1x32768, .bf16⟩
  | .hbm, ⟨27, _⟩ => ⟨S_, .bf16⟩
  | .hbm, ⟨28, _⟩ => ⟨S8x15x32768, .bf16⟩
  | .hbm, ⟨29, _⟩ => ⟨S8x128x32768, .bf16⟩
  | .hbm, ⟨30, _⟩ => ⟨S8x144x32768, .bf16⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S256, .f32⟩
  | .hbm, ⟨40, _⟩ => ⟨S256x1, .f32⟩
  | .hbm, ⟨41, _⟩ => ⟨S32768x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x144x16384, .bf16⟩
  | .local _ .vmem, ⟨9, _⟩ => ⟨S1x144x16384, .bf16⟩
  | .local _ .vmem, ⟨10, _⟩ => ⟨S1x144x16384, .bf16⟩
  | .local _ .vmem, ⟨11, _⟩ => ⟨S1x144x16384, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x1, .f32⟩
  | .local _ .vmem, ⟨17, _⟩ => ⟨S1024x256, .bf16⟩
  | .local _ .vmem, ⟨18, _⟩ => ⟨S1024x256, .bf16⟩
  | .local _ .vmem, ⟨19, _⟩ => ⟨S8x272x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | _, _ => ⟨S2x4x2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c1024_i32 : BitVec 32 := 1024#32
  let v22 : BitVec 32 := Scalar.muli arg2 c1024_i32
  v22
def k0_off1 (i : grid0.Coords) (c0_i32 : BitVec 32) : Fin 3 → Nat :=
  let c0_21 : Index := 0#32
  let arg2 : BitVec 32 := BitVec.ofNat 32 (i 2).val
  let c1024_i32 : BitVec 32 := 1024#32
  let v22 : BitVec 32 := Scalar.muli arg2 c1024_i32
  let v23 : BitVec 32 := v22
  let v24 : BitVec 32 := Scalar.addi v23 c0_i32
  let v25 : Index := Scalar.indexCast v24
  let c0_22 : Index := 0#32
  ![0, v25.toNat, 0]
def k0_off2 (i : grid0.Coords) : Fin 3 → Nat :=
  let c0_77 : Index := 0#32
  let c0_78 : Index := 0#32
  let arg2 : BitVec 32 := BitVec.ofNat 32 (i 2).val
  let c1024_i32 : BitVec 32 := 1024#32
  let v22 : BitVec 32 := Scalar.muli arg2 c1024_i32
  let v23 : BitVec 32 := v22
  let v121 : Index := Scalar.indexCast v23
  ![0, 0, v121.toNat]
def k0_off3 (i : grid0.Coords) : Fin 3 → Nat :=
  let c0_79 : Index := 0#32
  let c0_80 : Index := 0#32
  let arg2 : BitVec 32 := BitVec.ofNat 32 (i 2).val
  let c1024_i32 : BitVec 32 := 1024#32
  let v22 : BitVec 32 := Scalar.muli arg2 c1024_i32
  let v23 : BitVec 32 := v22
  let v124 : Index := Scalar.indexCast v23
  ![0, 0, v124.toNat]
def k0_off4 (i : grid0.Coords) : Fin 3 → Nat :=
  let c0_140 : Index := 0#32
  let c0_141 : Index := 0#32
  let arg2 : BitVec 32 := BitVec.ofNat 32 (i 2).val
  let c1024_i32 : BitVec 32 := 1024#32
  let v22 : BitVec 32 := Scalar.muli arg2 c1024_i32
  let v23 : BitVec 32 := v22
  let v223 : Index := Scalar.indexCast v23
  ![0, 0, v223.toNat]
def k0_off5 (i : grid0.Coords) : Fin 3 → Nat :=
  let c0_142 : Index := 0#32
  let c0_143 : Index := 0#32
  let arg2 : BitVec 32 := BitVec.ofNat 32 (i 2).val
  let c1024_i32 : BitVec 32 := 1024#32
  let v22 : BitVec 32 := Scalar.muli arg2 c1024_i32
  let v23 : BitVec 32 := v22
  let v226 : Index := Scalar.indexCast v23
  ![0, 0, v226.toNat]
def k0_off6 (i : grid0.Coords) : Fin 3 → Nat :=
  let c0_188 : Index := 0#32
  let c0_189 : Index := 0#32
  let arg2 : BitVec 32 := BitVec.ofNat 32 (i 2).val
  let c1024_i32 : BitVec 32 := 1024#32
  let v22 : BitVec 32 := Scalar.muli arg2 c1024_i32
  let v23 : BitVec 32 := v22
  let v303 : Index := Scalar.indexCast v23
  ![0, 0, v303.toNat]
def k0_off7 (i : grid0.Coords) : Fin 3 → Nat :=
  let c0_190 : Index := 0#32
  let c0_191 : Index := 0#32
  let arg2 : BitVec 32 := BitVec.ofNat 32 (i 2).val
  let c1024_i32 : BitVec 32 := 1024#32
  let v22 : BitVec 32 := Scalar.muli arg2 c1024_i32
  let v23 : BitVec 32 := v22
  let v306 : Index := Scalar.indexCast v23
  ![0, 0, v306.toNat]
def k0_off8 (i : grid0.Coords) : Fin 3 → Nat :=
  let c0_222 : Index := 0#32
  let c0_223 : Index := 0#32
  let arg2 : BitVec 32 := BitVec.ofNat 32 (i 2).val
  let c1024_i32 : BitVec 32 := 1024#32
  let v22 : BitVec 32 := Scalar.muli arg2 c1024_i32
  let v23 : BitVec 32 := v22
  let v361 : Index := Scalar.indexCast v23
  ![0, 0, v361.toNat]
def k0_off9 (i : grid0.Coords) : Fin 3 → Nat :=
  let c0_224 : Index := 0#32
  let c0_225 : Index := 0#32
  let arg2 : BitVec 32 := BitVec.ofNat 32 (i 2).val
  let c1024_i32 : BitVec 32 := 1024#32
  let v22 : BitVec 32 := Scalar.muli arg2 c1024_i32
  let v23 : BitVec 32 := v22
  let v364 : Index := Scalar.indexCast v23
  ![0, 0, v364.toNat]
@[reducible] def k0_t1_loop (i : grid0.Coords) : Scf.Loop 32 :=
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_275 : BitVec 32 := 1#32
  ⟨c0_i32_273, v447, c1_i32_275⟩
def k0_mult2 (i : grid0.Coords) (k0_t1 : Fin (k0_t1_loop i).trips) : BitVec 32 :=
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let c0_i32_374 : BitVec 32 := 0#32
  let v669 : BitVec 32 := Scalar.addi v668 c0_i32_374
  let c1024_i32_375 : BitVec 32 := 1024#32
  let v670 : BitVec 32 := Scalar.muli v669 c1024_i32_375
  v670
def k0_off10 (i : grid0.Coords) (k0_t1 : Fin (k0_t1_loop i).trips) (c0_i32_374 : BitVec 32) (c0_i32_376 : BitVec 32) : Fin 3 → Nat :=
  let c0_377 : Index := 0#32
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v672 : BitVec 32 := Scalar.addi v671 c0_i32_376
  let v673 : Index := Scalar.indexCast v672
  let c0_378 : Index := 0#32
  ![0, v673.toNat, 0]
def k0_off11 (i : grid0.Coords) (k0_t1 : Fin (k0_t1_loop i).trips) (c0_i32_374 : BitVec 32) : Fin 3 → Nat :=
  let c0_407 : Index := 0#32
  let c0_408 : Index := 0#32
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v725 : Index := Scalar.indexCast v671
  ![0, 0, v725.toNat]
def k0_off12 (i : grid0.Coords) (k0_t1 : Fin (k0_t1_loop i).trips) (c0_i32_374 : BitVec 32) : Fin 3 → Nat :=
  let c0_409 : Index := 0#32
  let c0_410 : Index := 0#32
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v728 : Index := Scalar.indexCast v671
  ![0, 0, v728.toNat]
def k0_mult3 (i : grid0.Coords) (k0_t1 : Fin (k0_t1_loop i).trips) : BitVec 32 :=
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let c0_i32_374 : BitVec 32 := 0#32
  let v669 : BitVec 32 := Scalar.addi v668 c0_i32_374
  let c1_i32_670 : BitVec 32 := 1#32
  let v1155 : BitVec 32 := Scalar.addi v669 c1_i32_670
  let c1024_i32_671 : BitVec 32 := 1024#32
  let v1156 : BitVec 32 := Scalar.muli v1155 c1024_i32_671
  v1156
def k0_off13 (i : grid0.Coords) (k0_t1 : Fin (k0_t1_loop i).trips) (c0_i32_374 : BitVec 32) (c0_i32_672 : BitVec 32) : Fin 3 → Nat :=
  let c0_673 : Index := 0#32
  let c0_i32_373 : BitVec 32 := 0#32
  let c4_i32_372 : BitVec 32 := 4#32
  let c0_i32_273 : BitVec 32 := 0#32
  let c1_i32_275 : BitVec 32 := 1#32
  let arg24 : BitVec 32 := Scf.iv c0_i32_273 c1_i32_275 k0_t1
  let v667 : BitVec 32 := Scalar.muli c4_i32_372 arg24
  let v668 : BitVec 32 := Scalar.addi c0_i32_373 v667
  let v669 : BitVec 32 := Scalar.addi v668 c0_i32_374
  let c1_i32_670 : BitVec 32 := 1#32
  let v1155 : BitVec 32 := Scalar.addi v669 c1_i32_670
  let c1024_i32_671 : BitVec 32 := 1024#32
  let v1156 : BitVec 32 := Scalar.muli v1155 c1024_i32_671
  let v1157 : BitVec 32 := v1156
  let v1158 : BitVec 32 := Scalar.addi v1157 c0_i32_672
  let v1159 : Index := Scalar.indexCast v1158
  let c0_674 : Index := 0#32
  ![0, v1159.toNat, 0]
def k0_mult4 (i : grid0.Coords) (k0_t1 : Fin (k0_t1_loop i).trips) : BitVec 32 :=
  let c0_i32_715 : BitVec 32 := 0#32
  let c4_i32_714 : BitVec 32 := 4#32
  let c0_i32_273 : BitVec 32 := 0#32
  let c1_i32_275 : BitVec 32 := 1#32
  let arg24 : BitVec 32 := Scf.iv c0_i32_273 c1_i32_275 k0_t1
  let v1227 : BitVec 32 := Scalar.muli c4_i32_714 arg24
  let v1228 : BitVec 32 := Scalar.addi c0_i32_715 v1227
  let c1_i32_716 : BitVec 32 := 1#32
  let v1229 : BitVec 32 := Scalar.addi v1228 c1_i32_716
  let c1024_i32_717 : BitVec 32 := 1024#32
  let v1230 : BitVec 32 := Scalar.muli v1229 c1024_i32_717
  v1230
def k0_mult5 (i : grid0.Coords) (k0_t1 : Fin (k0_t1_loop i).trips) : BitVec 32 :=
  let c0_i32_715 : BitVec 32 := 0#32
  let c4_i32_714 : BitVec 32 := 4#32
  let c0_i32_273 : BitVec 32 := 0#32
  let c1_i32_275 : BitVec 32 := 1#32
  let arg24 : BitVec 32 := Scf.iv c0_i32_273 c1_i32_275 k0_t1
  let v1227 : BitVec 32 := Scalar.muli c4_i32_714 arg24
  let v1228 : BitVec 32 := Scalar.addi c0_i32_715 v1227
  let c1_i32_716 : BitVec 32 := 1#32
  let v1229 : BitVec 32 := Scalar.addi v1228 c1_i32_716
  let c1_i32_1012 : BitVec 32 := 1#32
  let v1715 : BitVec 32 := Scalar.addi v1229 c1_i32_1012
  let c1024_i32_1013 : BitVec 32 := 1024#32
  let v1716 : BitVec 32 := Scalar.muli v1715 c1024_i32_1013
  v1716
def k0_mult6 (i : grid0.Coords) (k0_t1 : Fin (k0_t1_loop i).trips) : BitVec 32 :=
  let c0_i32_1057 : BitVec 32 := 0#32
  let c4_i32_1056 : BitVec 32 := 4#32
  let c0_i32_273 : BitVec 32 := 0#32
  let c1_i32_275 : BitVec 32 := 1#32
  let arg24 : BitVec 32 := Scf.iv c0_i32_273 c1_i32_275 k0_t1
  let v1787 : BitVec 32 := Scalar.muli c4_i32_1056 arg24
  let v1788 : BitVec 32 := Scalar.addi c0_i32_1057 v1787
  let c2_i32_1058 : BitVec 32 := 2#32
  let v1789 : BitVec 32 := Scalar.addi v1788 c2_i32_1058
  let c1024_i32_1059 : BitVec 32 := 1024#32
  let v1790 : BitVec 32 := Scalar.muli v1789 c1024_i32_1059
  v1790
def k0_mult7 (i : grid0.Coords) (k0_t1 : Fin (k0_t1_loop i).trips) : BitVec 32 :=
  let c0_i32_1057 : BitVec 32 := 0#32
  let c4_i32_1056 : BitVec 32 := 4#32
  let c0_i32_273 : BitVec 32 := 0#32
  let c1_i32_275 : BitVec 32 := 1#32
  let arg24 : BitVec 32 := Scf.iv c0_i32_273 c1_i32_275 k0_t1
  let v1787 : BitVec 32 := Scalar.muli c4_i32_1056 arg24
  let v1788 : BitVec 32 := Scalar.addi c0_i32_1057 v1787
  let c2_i32_1058 : BitVec 32 := 2#32
  let v1789 : BitVec 32 := Scalar.addi v1788 c2_i32_1058
  let c1_i32_1354 : BitVec 32 := 1#32
  let v2275 : BitVec 32 := Scalar.addi v1789 c1_i32_1354
  let c1024_i32_1355 : BitVec 32 := 1024#32
  let v2276 : BitVec 32 := Scalar.muli v2275 c1024_i32_1355
  v2276
def k0_mult8 (i : grid0.Coords) (k0_t1 : Fin (k0_t1_loop i).trips) : BitVec 32 :=
  let c0_i32_1399 : BitVec 32 := 0#32
  let c4_i32_1398 : BitVec 32 := 4#32
  let c0_i32_273 : BitVec 32 := 0#32
  let c1_i32_275 : BitVec 32 := 1#32
  let arg24 : BitVec 32 := Scf.iv c0_i32_273 c1_i32_275 k0_t1
  let v2347 : BitVec 32 := Scalar.muli c4_i32_1398 arg24
  let v2348 : BitVec 32 := Scalar.addi c0_i32_1399 v2347
  let c3_i32 : BitVec 32 := 3#32
  let v2349 : BitVec 32 := Scalar.addi v2348 c3_i32
  let c1024_i32_1400 : BitVec 32 := 1024#32
  let v2350 : BitVec 32 := Scalar.muli v2349 c1024_i32_1400
  v2350
def k0_mult9 (i : grid0.Coords) (k0_t1 : Fin (k0_t1_loop i).trips) : BitVec 32 :=
  let c0_i32_1399 : BitVec 32 := 0#32
  let c4_i32_1398 : BitVec 32 := 4#32
  let c0_i32_273 : BitVec 32 := 0#32
  let c1_i32_275 : BitVec 32 := 1#32
  let arg24 : BitVec 32 := Scf.iv c0_i32_273 c1_i32_275 k0_t1
  let v2347 : BitVec 32 := Scalar.muli c4_i32_1398 arg24
  let v2348 : BitVec 32 := Scalar.addi c0_i32_1399 v2347
  let c3_i32 : BitVec 32 := 3#32
  let v2349 : BitVec 32 := Scalar.addi v2348 c3_i32
  let c1_i32_1695 : BitVec 32 := 1#32
  let v2835 : BitVec 32 := Scalar.addi v2349 c1_i32_1695
  let c1024_i32_1696 : BitVec 32 := 1024#32
  let v2836 : BitVec 32 := Scalar.muli v2835 c1024_i32_1696
  v2836
@[reducible] def k0_t2_loop (i : grid0.Coords) : Scf.Loop 32 :=
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let v444 : BitVec 32 := Scalar.addi c0_i32_273 v443
  let c1_i32_276 : BitVec 32 := 1#32
  ⟨v447, v444, c1_i32_276⟩
def k0_mult10 (i : grid0.Coords) (k0_t2 : Fin (k0_t2_loop i).trips) : BitVec 32 :=
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let c0_i32_374 : BitVec 32 := 0#32
  let v669 : BitVec 32 := Scalar.addi v668 c0_i32_374
  let c1024_i32_375 : BitVec 32 := 1024#32
  let v670 : BitVec 32 := Scalar.muli v669 c1024_i32_375
  v670
def k0_off14 (i : grid0.Coords) (k0_t2 : Fin (k0_t2_loop i).trips) (c0_i32_374 : BitVec 32) (c0_i32_376 : BitVec 32) : Fin 3 → Nat :=
  let c0_377 : Index := 0#32
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v672 : BitVec 32 := Scalar.addi v671 c0_i32_376
  let v673 : Index := Scalar.indexCast v672
  let c0_378 : Index := 0#32
  ![0, v673.toNat, 0]
def k0_off15 (i : grid0.Coords) (k0_t2 : Fin (k0_t2_loop i).trips) (c0_i32_374 : BitVec 32) : Fin 3 → Nat :=
  let c0_407 : Index := 0#32
  let c0_408 : Index := 0#32
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v725 : Index := Scalar.indexCast v671
  ![0, 0, v725.toNat]
def k0_off16 (i : grid0.Coords) (k0_t2 : Fin (k0_t2_loop i).trips) (c0_i32_374 : BitVec 32) : Fin 3 → Nat :=
  let c0_409 : Index := 0#32
  let c0_410 : Index := 0#32
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let v669 : BitVec 32 := Scalar.addi v668 c0_i32_374
  let c1024_i32_375 : BitVec 32 := 1024#32
  let v670 : BitVec 32 := Scalar.muli v669 c1024_i32_375
  let v671 : BitVec 32 := v670
  let v728 : Index := Scalar.indexCast v671
  ![0, 0, v728.toNat]
def k0_mult11 (i : grid0.Coords) (k0_t2 : Fin (k0_t2_loop i).trips) : BitVec 32 :=
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let c0_i32_374 : BitVec 32 := 0#32
  let v669 : BitVec 32 := Scalar.addi v668 c0_i32_374
  let c1_i32_670 : BitVec 32 := 1#32
  let v1155 : BitVec 32 := Scalar.addi v669 c1_i32_670
  let c1024_i32_671 : BitVec 32 := 1024#32
  let v1156 : BitVec 32 := Scalar.muli v1155 c1024_i32_671
  v1156
def k0_off17 (i : grid0.Coords) (k0_t2 : Fin (k0_t2_loop i).trips) (c0_i32_374 : BitVec 32) (c0_i32_672 : BitVec 32) : Fin 3 → Nat :=
  let c0_673 : Index := 0#32
  let c0_i32_373 : BitVec 32 := 0#32
  let c4_i32_372 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v667 : BitVec 32 := Scalar.muli c4_i32_372 arg24
  let v668 : BitVec 32 := Scalar.addi c0_i32_373 v667
  let v669 : BitVec 32 := Scalar.addi v668 c0_i32_374
  let c1_i32_670 : BitVec 32 := 1#32
  let v1155 : BitVec 32 := Scalar.addi v669 c1_i32_670
  let c1024_i32_671 : BitVec 32 := 1024#32
  let v1156 : BitVec 32 := Scalar.muli v1155 c1024_i32_671
  let v1157 : BitVec 32 := v1156
  let v1158 : BitVec 32 := Scalar.addi v1157 c0_i32_672
  let v1159 : Index := Scalar.indexCast v1158
  let c0_674 : Index := 0#32
  ![0, v1159.toNat, 0]
def k0_mult12 (i : grid0.Coords) (k0_t2 : Fin (k0_t2_loop i).trips) : BitVec 32 :=
  let c0_i32_715 : BitVec 32 := 0#32
  let c4_i32_714 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v1227 : BitVec 32 := Scalar.muli c4_i32_714 arg24
  let v1228 : BitVec 32 := Scalar.addi c0_i32_715 v1227
  let c1_i32_716 : BitVec 32 := 1#32
  let v1229 : BitVec 32 := Scalar.addi v1228 c1_i32_716
  let c1024_i32_717 : BitVec 32 := 1024#32
  let v1230 : BitVec 32 := Scalar.muli v1229 c1024_i32_717
  v1230
def k0_mult13 (i : grid0.Coords) (k0_t2 : Fin (k0_t2_loop i).trips) : BitVec 32 :=
  let c0_i32_715 : BitVec 32 := 0#32
  let c4_i32_714 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v1227 : BitVec 32 := Scalar.muli c4_i32_714 arg24
  let v1228 : BitVec 32 := Scalar.addi c0_i32_715 v1227
  let c1_i32_716 : BitVec 32 := 1#32
  let v1229 : BitVec 32 := Scalar.addi v1228 c1_i32_716
  let c1_i32_1012 : BitVec 32 := 1#32
  let v1715 : BitVec 32 := Scalar.addi v1229 c1_i32_1012
  let c1024_i32_1013 : BitVec 32 := 1024#32
  let v1716 : BitVec 32 := Scalar.muli v1715 c1024_i32_1013
  v1716
def k0_mult14 (i : grid0.Coords) (k0_t2 : Fin (k0_t2_loop i).trips) : BitVec 32 :=
  let c0_i32_1057 : BitVec 32 := 0#32
  let c4_i32_1056 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v1787 : BitVec 32 := Scalar.muli c4_i32_1056 arg24
  let v1788 : BitVec 32 := Scalar.addi c0_i32_1057 v1787
  let c2_i32_1058 : BitVec 32 := 2#32
  let v1789 : BitVec 32 := Scalar.addi v1788 c2_i32_1058
  let c1024_i32_1059 : BitVec 32 := 1024#32
  let v1790 : BitVec 32 := Scalar.muli v1789 c1024_i32_1059
  v1790
def k0_mult15 (i : grid0.Coords) (k0_t2 : Fin (k0_t2_loop i).trips) : BitVec 32 :=
  let c0_i32_1057 : BitVec 32 := 0#32
  let c4_i32_1056 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v1787 : BitVec 32 := Scalar.muli c4_i32_1056 arg24
  let v1788 : BitVec 32 := Scalar.addi c0_i32_1057 v1787
  let c2_i32_1058 : BitVec 32 := 2#32
  let v1789 : BitVec 32 := Scalar.addi v1788 c2_i32_1058
  let c1_i32_1354 : BitVec 32 := 1#32
  let v2275 : BitVec 32 := Scalar.addi v1789 c1_i32_1354
  let c1024_i32_1355 : BitVec 32 := 1024#32
  let v2276 : BitVec 32 := Scalar.muli v2275 c1024_i32_1355
  v2276
def k0_mult16 (i : grid0.Coords) (k0_t2 : Fin (k0_t2_loop i).trips) : BitVec 32 :=
  let c0_i32_1399 : BitVec 32 := 0#32
  let c4_i32_1398 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v2347 : BitVec 32 := Scalar.muli c4_i32_1398 arg24
  let v2348 : BitVec 32 := Scalar.addi c0_i32_1399 v2347
  let c3_i32 : BitVec 32 := 3#32
  let v2349 : BitVec 32 := Scalar.addi v2348 c3_i32
  let c1024_i32_1400 : BitVec 32 := 1024#32
  let v2350 : BitVec 32 := Scalar.muli v2349 c1024_i32_1400
  v2350
def k0_mult17 (i : grid0.Coords) (k0_t2 : Fin (k0_t2_loop i).trips) : BitVec 32 :=
  let c0_i32_1399 : BitVec 32 := 0#32
  let c4_i32_1398 : BitVec 32 := 4#32
  let c0_i32_273 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let v443 : BitVec 32 := Scalar.subi v442 c0_i32_273
  let c1_i32_274 : BitVec 32 := 1#32
  let v445 : BitVec 32 := Scalar.divsi v443 c1_i32_274
  let v446 : BitVec 32 := Scalar.muli v445 c1_i32_274
  let v447 : BitVec 32 := Scalar.addi c0_i32_273 v446
  let c1_i32_276 : BitVec 32 := 1#32
  let arg24 : BitVec 32 := Scf.iv v447 c1_i32_276 k0_t2
  let v2347 : BitVec 32 := Scalar.muli c4_i32_1398 arg24
  let v2348 : BitVec 32 := Scalar.addi c0_i32_1399 v2347
  let c3_i32 : BitVec 32 := 3#32
  let v2349 : BitVec 32 := Scalar.addi v2348 c3_i32
  let c1_i32_1695 : BitVec 32 := 1#32
  let v2835 : BitVec 32 := Scalar.addi v2349 c1_i32_1695
  let c1024_i32_1696 : BitVec 32 := 1024#32
  let v2836 : BitVec 32 := Scalar.muli v2835 c1024_i32_1696
  v2836
@[reducible] def k0_t3_loop (i : grid0.Coords) : Scf.Loop 32 :=
  let c0_i32_285 : BitVec 32 := 0#32
  let arg2 : BitVec 32 := BitVec.ofNat 32 (i 2).val
  let c0_i32_278 : BitVec 32 := 0#32
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_287 : BitVec 32 := 1#32
  ⟨c0_i32_285, v474, c1_i32_287⟩
def k0_mult18 (i : grid0.Coords) (k0_t3 : Fin (k0_t3_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let c0_i32_373 : BitVec 32 := 0#32
  let v669 : BitVec 32 := Scalar.addi v668 c0_i32_373
  let c1024_i32_374 : BitVec 32 := 1024#32
  let v670 : BitVec 32 := Scalar.muli v669 c1024_i32_374
  v670
def k0_off18 (i : grid0.Coords) (k0_t3 : Fin (k0_t3_loop i).trips) (c0_i32_373 : BitVec 32) (c0_i32_375 : BitVec 32) : Fin 3 → Nat :=
  let c0_376 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v672 : BitVec 32 := Scalar.addi v671 c0_i32_375
  let v673 : Index := Scalar.indexCast v672
  let c0_377 : Index := 0#32
  ![0, v673.toNat, 0]
def k0_off19 (i : grid0.Coords) (k0_t3 : Fin (k0_t3_loop i).trips) (c0_i32_373 : BitVec 32) : Fin 3 → Nat :=
  let c0_406 : Index := 0#32
  let c0_407 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v725 : Index := Scalar.indexCast v671
  ![0, 0, v725.toNat]
def k0_off20 (i : grid0.Coords) (k0_t3 : Fin (k0_t3_loop i).trips) (c0_i32_373 : BitVec 32) : Fin 3 → Nat :=
  let c0_408 : Index := 0#32
  let c0_409 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v728 : Index := Scalar.indexCast v671
  ![0, 0, v728.toNat]
def k0_mult19 (i : grid0.Coords) (k0_t3 : Fin (k0_t3_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  v1156
def k0_off21 (i : grid0.Coords) (k0_t3 : Fin (k0_t3_loop i).trips) (c0_i32_373 : BitVec 32) (c0_i32_671 : BitVec 32) : Fin 3 → Nat :=
  let c0_672 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let c1_i32_287 : BitVec 32 := 1#32
  let arg24 : BitVec 32 := Scf.iv c0_i32_285 c1_i32_287 k0_t3
  let v667 : BitVec 32 := Scalar.muli c2_i32_372 arg24
  let v668 : BitVec 32 := Scalar.addi v451 v667
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  let v1157 : BitVec 32 := v1156
  let v1158 : BitVec 32 := Scalar.addi v1157 c0_i32_671
  let v1159 : Index := Scalar.indexCast v1158
  let c0_673 : Index := 0#32
  ![0, v1159.toNat, 0]
def k0_mult20 (i : grid0.Coords) (k0_t3 : Fin (k0_t3_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_713 : BitVec 32 := 2#32
  let c0_i32_285 : BitVec 32 := 0#32
  let c1_i32_287 : BitVec 32 := 1#32
  let arg24 : BitVec 32 := Scf.iv c0_i32_285 c1_i32_287 k0_t3
  let v1227 : BitVec 32 := Scalar.muli c2_i32_713 arg24
  let v1228 : BitVec 32 := Scalar.addi v451 v1227
  let c1_i32_714 : BitVec 32 := 1#32
  let v1229 : BitVec 32 := Scalar.addi v1228 c1_i32_714
  let c1024_i32_715 : BitVec 32 := 1024#32
  let v1230 : BitVec 32 := Scalar.muli v1229 c1024_i32_715
  v1230
def k0_mult21 (i : grid0.Coords) (k0_t3 : Fin (k0_t3_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_713 : BitVec 32 := 2#32
  let c0_i32_285 : BitVec 32 := 0#32
  let c1_i32_287 : BitVec 32 := 1#32
  let arg24 : BitVec 32 := Scf.iv c0_i32_285 c1_i32_287 k0_t3
  let v1227 : BitVec 32 := Scalar.muli c2_i32_713 arg24
  let v1228 : BitVec 32 := Scalar.addi v451 v1227
  let c1_i32_714 : BitVec 32 := 1#32
  let v1229 : BitVec 32 := Scalar.addi v1228 c1_i32_714
  let c1_i32_1010 : BitVec 32 := 1#32
  let v1715 : BitVec 32 := Scalar.addi v1229 c1_i32_1010
  let c1024_i32_1011 : BitVec 32 := 1024#32
  let v1716 : BitVec 32 := Scalar.muli v1715 c1024_i32_1011
  v1716
@[reducible] def k0_t4_loop (i : grid0.Coords) : Scf.Loop 32 :=
  let c0_i32_285 : BitVec 32 := 0#32
  let arg2 : BitVec 32 := BitVec.ofNat 32 (i 2).val
  let c0_i32_278 : BitVec 32 := 0#32
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let v471 : BitVec 32 := Scalar.addi c0_i32_285 v470
  let c1_i32_288 : BitVec 32 := 1#32
  ⟨v474, v471, c1_i32_288⟩
def k0_mult22 (i : grid0.Coords) (k0_t4 : Fin (k0_t4_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let c0_i32_373 : BitVec 32 := 0#32
  let v669 : BitVec 32 := Scalar.addi v668 c0_i32_373
  let c1024_i32_374 : BitVec 32 := 1024#32
  let v670 : BitVec 32 := Scalar.muli v669 c1024_i32_374
  v670
def k0_off22 (i : grid0.Coords) (k0_t4 : Fin (k0_t4_loop i).trips) (c0_i32_373 : BitVec 32) (c0_i32_375 : BitVec 32) : Fin 3 → Nat :=
  let c0_376 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v672 : BitVec 32 := Scalar.addi v671 c0_i32_375
  let v673 : Index := Scalar.indexCast v672
  let c0_377 : Index := 0#32
  ![0, v673.toNat, 0]
def k0_off23 (i : grid0.Coords) (k0_t4 : Fin (k0_t4_loop i).trips) (c0_i32_373 : BitVec 32) : Fin 3 → Nat :=
  let c0_406 : Index := 0#32
  let c0_407 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v725 : Index := Scalar.indexCast v671
  ![0, 0, v725.toNat]
def k0_off24 (i : grid0.Coords) (k0_t4 : Fin (k0_t4_loop i).trips) (c0_i32_373 : BitVec 32) : Fin 3 → Nat :=
  let c0_408 : Index := 0#32
  let c0_409 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let v669 : BitVec 32 := Scalar.addi v668 c0_i32_373
  let c1024_i32_374 : BitVec 32 := 1024#32
  let v670 : BitVec 32 := Scalar.muli v669 c1024_i32_374
  let v671 : BitVec 32 := v670
  let v728 : Index := Scalar.indexCast v671
  ![0, 0, v728.toNat]
def k0_mult23 (i : grid0.Coords) (k0_t4 : Fin (k0_t4_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  v1156
def k0_off25 (i : grid0.Coords) (k0_t4 : Fin (k0_t4_loop i).trips) (c0_i32_373 : BitVec 32) (c0_i32_671 : BitVec 32) : Fin 3 → Nat :=
  let c0_672 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_372 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v667 : BitVec 32 := Scalar.muli c2_i32_372 arg24
  let v668 : BitVec 32 := Scalar.addi v451 v667
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  let v1157 : BitVec 32 := v1156
  let v1158 : BitVec 32 := Scalar.addi v1157 c0_i32_671
  let v1159 : Index := Scalar.indexCast v1158
  let c0_673 : Index := 0#32
  ![0, v1159.toNat, 0]
def k0_mult24 (i : grid0.Coords) (k0_t4 : Fin (k0_t4_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_713 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v1227 : BitVec 32 := Scalar.muli c2_i32_713 arg24
  let v1228 : BitVec 32 := Scalar.addi v451 v1227
  let c1_i32_714 : BitVec 32 := 1#32
  let v1229 : BitVec 32 := Scalar.addi v1228 c1_i32_714
  let c1024_i32_715 : BitVec 32 := 1024#32
  let v1230 : BitVec 32 := Scalar.muli v1229 c1024_i32_715
  v1230
def k0_mult25 (i : grid0.Coords) (k0_t4 : Fin (k0_t4_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let c2_i32_713 : BitVec 32 := 2#32
  let c0_i32_285 : BitVec 32 := 0#32
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let v470 : BitVec 32 := Scalar.subi v469 c0_i32_285
  let c1_i32_286 : BitVec 32 := 1#32
  let v472 : BitVec 32 := Scalar.divsi v470 c1_i32_286
  let v473 : BitVec 32 := Scalar.muli v472 c1_i32_286
  let v474 : BitVec 32 := Scalar.addi c0_i32_285 v473
  let c1_i32_288 : BitVec 32 := 1#32
  let arg24 : BitVec 32 := Scf.iv v474 c1_i32_288 k0_t4
  let v1227 : BitVec 32 := Scalar.muli c2_i32_713 arg24
  let v1228 : BitVec 32 := Scalar.addi v451 v1227
  let c1_i32_714 : BitVec 32 := 1#32
  let v1229 : BitVec 32 := Scalar.addi v1228 c1_i32_714
  let c1_i32_1010 : BitVec 32 := 1#32
  let v1715 : BitVec 32 := Scalar.addi v1229 c1_i32_1010
  let c1024_i32_1011 : BitVec 32 := 1024#32
  let v1716 : BitVec 32 := Scalar.muli v1715 c1024_i32_1011
  v1716
@[reducible] def k0_t5_loop (i : grid0.Coords) : Scf.Loop 32 :=
  let c0_i32_297 : BitVec 32 := 0#32
  let arg2 : BitVec 32 := BitVec.ofNat 32 (i 2).val
  let c0_i32_278 : BitVec 32 := 0#32
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_299 : BitVec 32 := 1#32
  ⟨c0_i32_297, v501, c1_i32_299⟩
def k0_mult26 (i : grid0.Coords) (k0_t5 : Fin (k0_t5_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  v670
def k0_off26 (i : grid0.Coords) (k0_t5 : Fin (k0_t5_loop i).trips) (c0_i32_375 : BitVec 32) : Fin 3 → Nat :=
  let c0_376 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v672 : BitVec 32 := Scalar.addi v671 c0_i32_375
  let v673 : Index := Scalar.indexCast v672
  let c0_377 : Index := 0#32
  ![0, v673.toNat, 0]
def k0_off27 (i : grid0.Coords) (k0_t5 : Fin (k0_t5_loop i).trips) : Fin 3 → Nat :=
  let c0_406 : Index := 0#32
  let c0_407 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v725 : Index := Scalar.indexCast v671
  ![0, 0, v725.toNat]
def k0_off28 (i : grid0.Coords) (k0_t5 : Fin (k0_t5_loop i).trips) : Fin 3 → Nat :=
  let c0_408 : Index := 0#32
  let c0_409 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v728 : Index := Scalar.indexCast v671
  ![0, 0, v728.toNat]
def k0_mult27 (i : grid0.Coords) (k0_t5 : Fin (k0_t5_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  v1156
def k0_off29 (i : grid0.Coords) (k0_t5 : Fin (k0_t5_loop i).trips) (c0_i32_671 : BitVec 32) : Fin 3 → Nat :=
  let c0_672 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let c1_i32_299 : BitVec 32 := 1#32
  let arg24 : BitVec 32 := Scf.iv c0_i32_297 c1_i32_299 k0_t5
  let v667 : BitVec 32 := Scalar.muli c1_i32_372 arg24
  let v668 : BitVec 32 := Scalar.addi v478 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  let v1157 : BitVec 32 := v1156
  let v1158 : BitVec 32 := Scalar.addi v1157 c0_i32_671
  let v1159 : Index := Scalar.indexCast v1158
  let c0_673 : Index := 0#32
  ![0, v1159.toNat, 0]
@[reducible] def k0_t6_loop (i : grid0.Coords) : Scf.Loop 32 :=
  let c0_i32_297 : BitVec 32 := 0#32
  let arg2 : BitVec 32 := BitVec.ofNat 32 (i 2).val
  let c0_i32_278 : BitVec 32 := 0#32
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let v498 : BitVec 32 := Scalar.addi c0_i32_297 v497
  let c1_i32_300 : BitVec 32 := 1#32
  ⟨v501, v498, c1_i32_300⟩
def k0_mult28 (i : grid0.Coords) (k0_t6 : Fin (k0_t6_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  v670
def k0_off30 (i : grid0.Coords) (k0_t6 : Fin (k0_t6_loop i).trips) (c0_i32_375 : BitVec 32) : Fin 3 → Nat :=
  let c0_376 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v672 : BitVec 32 := Scalar.addi v671 c0_i32_375
  let v673 : Index := Scalar.indexCast v672
  let c0_377 : Index := 0#32
  ![0, v673.toNat, 0]
def k0_off31 (i : grid0.Coords) (k0_t6 : Fin (k0_t6_loop i).trips) : Fin 3 → Nat :=
  let c0_406 : Index := 0#32
  let c0_407 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v725 : Index := Scalar.indexCast v671
  ![0, 0, v725.toNat]
def k0_off32 (i : grid0.Coords) (k0_t6 : Fin (k0_t6_loop i).trips) : Fin 3 → Nat :=
  let c0_408 : Index := 0#32
  let c0_409 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1024_i32_374 : BitVec 32 := 1024#32
  let v670 : BitVec 32 := Scalar.muli v669 c1024_i32_374
  let v671 : BitVec 32 := v670
  let v728 : Index := Scalar.indexCast v671
  ![0, 0, v728.toNat]
def k0_mult29 (i : grid0.Coords) (k0_t6 : Fin (k0_t6_loop i).trips) : BitVec 32 :=
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  v1156
def k0_off33 (i : grid0.Coords) (k0_t6 : Fin (k0_t6_loop i).trips) (c0_i32_671 : BitVec 32) : Fin 3 → Nat :=
  let c0_672 : Index := 0#32
  let c0_i32_278 : BitVec 32 := 0#32
  let arg2 : BitVec 32 := BitVec.ofNat 32 (i 2).val
  let c0_i32_267 : BitVec 32 := 0#32
  let v425 : BitVec 32 := Scalar.subi arg2 c0_i32_267
  let c0_i32_268 : BitVec 32 := 0#32
  let v427 : BitVec 1 := Scalar.cmpi .sgt v425 c0_i32_268
  let v428 : BitVec 32 := Scalar.extui v427
  let c0_i32_269 : BitVec 32 := 0#32
  let v429 : BitVec 1 := Scalar.cmpi .slt v425 c0_i32_269
  let v430 : BitVec 32 := Scalar.extui v429
  let v431 : BitVec 32 := Scalar.subi v428 v430
  let c4_i32 : BitVec 32 := 4#32
  let c0_i32_270 : BitVec 32 := 0#32
  let v432 : BitVec 1 := Scalar.cmpi .sgt c4_i32 c0_i32_270
  let v433 : BitVec 32 := Scalar.extui v432
  let c0_i32_271 : BitVec 32 := 0#32
  let v434 : BitVec 1 := Scalar.cmpi .slt c4_i32 c0_i32_271
  let v435 : BitVec 32 := Scalar.extui v434
  let v436 : BitVec 32 := Scalar.subi v433 v435
  let v437 : BitVec 1 := Scalar.cmpi .ne v431 v436
  let v438 : BitVec 32 := Scalar.remsi v425 c4_i32
  let c0_i32_272 : BitVec 32 := 0#32
  let v439 : BitVec 1 := Scalar.cmpi .ne v438 c0_i32_272
  let v440 : BitVec 1 := Scalar.andi v437 v439
  let v426 : BitVec 32 := Scalar.divsi v425 c4_i32
  let c1_i32 : BitVec 32 := 1#32
  let v441 : BitVec 32 := Scalar.subi v426 c1_i32
  let v442 : BitVec 32 := Scalar.select v440 v441 v426
  let c4_i32_277 : BitVec 32 := 4#32
  let v450 : BitVec 32 := Scalar.muli v442 c4_i32_277
  let v451 : BitVec 32 := Scalar.addi c0_i32_278 v450
  let v452 : BitVec 32 := Scalar.subi arg2 v451
  let c0_i32_279 : BitVec 32 := 0#32
  let v454 : BitVec 1 := Scalar.cmpi .sgt v452 c0_i32_279
  let v455 : BitVec 32 := Scalar.extui v454
  let c0_i32_280 : BitVec 32 := 0#32
  let v456 : BitVec 1 := Scalar.cmpi .slt v452 c0_i32_280
  let v457 : BitVec 32 := Scalar.extui v456
  let v458 : BitVec 32 := Scalar.subi v455 v457
  let c2_i32 : BitVec 32 := 2#32
  let c0_i32_281 : BitVec 32 := 0#32
  let v459 : BitVec 1 := Scalar.cmpi .sgt c2_i32 c0_i32_281
  let v460 : BitVec 32 := Scalar.extui v459
  let c0_i32_282 : BitVec 32 := 0#32
  let v461 : BitVec 1 := Scalar.cmpi .slt c2_i32 c0_i32_282
  let v462 : BitVec 32 := Scalar.extui v461
  let v463 : BitVec 32 := Scalar.subi v460 v462
  let v464 : BitVec 1 := Scalar.cmpi .ne v458 v463
  let v465 : BitVec 32 := Scalar.remsi v452 c2_i32
  let c0_i32_283 : BitVec 32 := 0#32
  let v466 : BitVec 1 := Scalar.cmpi .ne v465 c0_i32_283
  let v467 : BitVec 1 := Scalar.andi v464 v466
  let v453 : BitVec 32 := Scalar.divsi v452 c2_i32
  let c1_i32_284 : BitVec 32 := 1#32
  let v468 : BitVec 32 := Scalar.subi v453 c1_i32_284
  let v469 : BitVec 32 := Scalar.select v467 v468 v453
  let c2_i32_289 : BitVec 32 := 2#32
  let v477 : BitVec 32 := Scalar.muli v469 c2_i32_289
  let v478 : BitVec 32 := Scalar.addi v451 v477
  let c1_i32_372 : BitVec 32 := 1#32
  let c0_i32_297 : BitVec 32 := 0#32
  let v479 : BitVec 32 := Scalar.subi arg2 v478
  let c0_i32_291 : BitVec 32 := 0#32
  let v481 : BitVec 1 := Scalar.cmpi .sgt v479 c0_i32_291
  let v482 : BitVec 32 := Scalar.extui v481
  let c0_i32_292 : BitVec 32 := 0#32
  let v483 : BitVec 1 := Scalar.cmpi .slt v479 c0_i32_292
  let v484 : BitVec 32 := Scalar.extui v483
  let v485 : BitVec 32 := Scalar.subi v482 v484
  let c1_i32_290 : BitVec 32 := 1#32
  let c0_i32_293 : BitVec 32 := 0#32
  let v486 : BitVec 1 := Scalar.cmpi .sgt c1_i32_290 c0_i32_293
  let v487 : BitVec 32 := Scalar.extui v486
  let c0_i32_294 : BitVec 32 := 0#32
  let v488 : BitVec 1 := Scalar.cmpi .slt c1_i32_290 c0_i32_294
  let v489 : BitVec 32 := Scalar.extui v488
  let v490 : BitVec 32 := Scalar.subi v487 v489
  let v491 : BitVec 1 := Scalar.cmpi .ne v485 v490
  let v492 : BitVec 32 := Scalar.remsi v479 c1_i32_290
  let c0_i32_295 : BitVec 32 := 0#32
  let v493 : BitVec 1 := Scalar.cmpi .ne v492 c0_i32_295
  let v494 : BitVec 1 := Scalar.andi v491 v493
  let v480 : BitVec 32 := Scalar.divsi v479 c1_i32_290
  let c1_i32_296 : BitVec 32 := 1#32
  let v495 : BitVec 32 := Scalar.subi v480 c1_i32_296
  let v496 : BitVec 32 := Scalar.select v494 v495 v480
  let v497 : BitVec 32 := Scalar.subi v496 c0_i32_297
  let c1_i32_298 : BitVec 32 := 1#32
  let v499 : BitVec 32 := Scalar.divsi v497 c1_i32_298
  let v500 : BitVec 32 := Scalar.muli v499 c1_i32_298
  let v501 : BitVec 32 := Scalar.addi c0_i32_297 v500
  let c1_i32_300 : BitVec 32 := 1#32
  let arg24 : BitVec 32 := Scf.iv v501 c1_i32_300 k0_t6
  let v667 : BitVec 32 := Scalar.muli c1_i32_372 arg24
  let v668 : BitVec 32 := Scalar.addi v478 v667
  let c0_i32_373 : BitVec 32 := 0#32
  let v669 : BitVec 32 := Scalar.addi v668 c0_i32_373
  let c1_i32_669 : BitVec 32 := 1#32
  let v1155 : BitVec 32 := Scalar.addi v669 c1_i32_669
  let c1024_i32_670 : BitVec 32 := 1024#32
  let v1156 : BitVec 32 := Scalar.muli v1155 c1024_i32_670
  let v1157 : BitVec 32 := v1156
  let v1158 : BitVec 32 := Scalar.addi v1157 c0_i32_671
  let v1159 : Index := Scalar.indexCast v1158
  let c0_673 : Index := 0#32
  ![0, v1159.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c16_i32 : BitVec 32 := 16#32
  let v2 : BitVec 32 := Scalar.muli arg0 c16_i32
  let v3 : BitVec 32 := Scalar.addi v2 arg2
  let c0_i32_0 : BitVec 32 := 0#32
  let c0_i32_1 : BitVec 32 := 0#32
  ![v1.toNat, c0_i32_0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c16_i32 : BitVec 32 := 16#32
  let v2 : BitVec 32 := Scalar.muli arg0 c16_i32
  let v3 : BitVec 32 := Scalar.addi v2 arg2
  let c0_i32 : BitVec 32 := 0#32
  let c0_i32_0 : BitVec 32 := 0#32
  ![v1.toNat, c0_i32.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x144x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x144x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S2x4x2x16384x128 : Shape := ⟨5, ![2, 4, 2, 16384, 128]⟩
abbrev S2x4x16384x256 : Shape := ⟨4, ![2, 4, 16384, 256]⟩
abbrev S1x128 : Shape := ⟨2, ![1, 128]⟩
abbrev S1x256 : Shape := ⟨2, ![1, 256]⟩
abbrev S128 : Shape := ⟨1, ![128]⟩
abbrev S_ : Shape := ⟨0, ![]⟩
abbrev S2x4x2x16384x16384 : Shape := ⟨5, ![2, 4, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S256 : Shape := ⟨1, ![256]⟩
abbrev S2x4x16384 : Shape := ⟨3, ![2, 4, 16384]⟩
abbrev S2x4x16384x1 : Shape := ⟨4, ![2, 4, 16384, 1]⟩
abbrev S1x1x1x256 : Shape := ⟨4, ![1, 1, 1, 256]⟩
abbrev S2x16384x4x256 : Shape := ⟨4, ![2, 16384, 4, 256]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x4x2x16384x128, .f32⟩
  | .hbm, ⟨1, _⟩ => ⟨S2x4x2x16384x128, .f32⟩
  | .hbm, ⟨2, _⟩ => ⟨S2x4x16384x256, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4x2x16384x16384, .f32⟩
  | .hbm, ⟨24, _⟩ => ⟨S_, .f32⟩
  | .hbm, ⟨25, _⟩ => ⟨S_, .f32⟩
  | .hbm, ⟨26, _⟩ => ⟨S2x4x2x16384x16384, .f32⟩
  | .hbm, ⟨27, _⟩ => ⟨S2x4x2x16384x16384, .f32⟩
  | .hbm, ⟨28, _⟩ => ⟨S16384, .i32⟩
  | .hbm, ⟨29, _⟩ => ⟨S1x16384, .i32⟩
  | .hbm, ⟨30, _⟩ => ⟨S16384x1, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S_, .f32⟩
  | .hbm, ⟨35, _⟩ => ⟨S_, .f32⟩
  | .hbm, ⟨36, _⟩ => ⟨S2x4x2x16384x16384, .i1⟩
  | .hbm, ⟨37, _⟩ => ⟨S2x4x2x16384x16384, .f32⟩
  | .hbm, ⟨38, _⟩ => ⟨S2x4x2x16384x16384, .f32⟩
  | .hbm, ⟨39, _⟩ => ⟨S_, .f32⟩
  | .hbm, ⟨40, _⟩ => ⟨S2x4x2x16384, .f32⟩
  | .hbm, ⟨41, _⟩ => ⟨S_, .f32⟩
  | .hbm, ⟨42, _⟩ => ⟨S2x4x2x16384, .f32⟩
  | .hbm, ⟨43, _⟩ => ⟨S2x4x2x16384, .f32⟩
  | .hbm, ⟨44, _⟩ => ⟨S2x4x2x16384x1, .f32⟩
  | .hbm, ⟨45, _⟩ => ⟨S2x4x2x16384x16384, .f32⟩
  | .hbm, ⟨46, _⟩ => ⟨S2x4x2x16384x16384, .f32⟩
  | .hbm, ⟨47, _⟩ => ⟨S2x4x2x16384x16384, .f32⟩
  | .hbm, ⟨48, _⟩ => ⟨S_, .f32⟩
  | .hbm, ⟨49, _⟩ => ⟨S2x4x2x16384, .f32⟩
  | .hbm, ⟨50, _⟩ => ⟨S2x4x2x16384x1, .f32⟩
  | .hbm, ⟨51, _⟩ => ⟨S2x4x2x16384x16384, .f32⟩
  | .hbm, ⟨52, _⟩ => ⟨S2x4x2x16384x16384, .f32⟩
  | .hbm, ⟨53, _⟩ => ⟨S2x4x1x16384x16384, .f32⟩
  | .hbm, ⟨54, _⟩ => ⟨S2x4x16384x16384, .f32⟩
  | .hbm, ⟨55, _⟩ => ⟨S2x4x1x16384x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S2x4x16384x16384, .f32⟩
  | .hbm, ⟨60, _⟩ => ⟨S2x4x16384x256, .f32⟩
  | .hbm, ⟨61, _⟩ => ⟨S256, .f32⟩
  | .hbm, ⟨62, _⟩ => ⟨S2x4x16384x256, .f32⟩
  | .hbm, ⟨63, _⟩ => ⟨S_, .f32⟩
  | .hbm, ⟨64, _⟩ => ⟨S2x4x16384, .f32⟩
  | .hbm, ⟨65, _⟩ => ⟨S2x4x16384x1, .f32⟩
  | .hbm, ⟨66, _⟩ => ⟨S_, .f32⟩
  | .hbm, ⟨67, _⟩ => ⟨S2x4x16384x1, .f32⟩
  | .hbm, ⟨68, _⟩ => ⟨S2x4x16384x1, .f32⟩
  | .hbm, ⟨69, _⟩ => ⟨S_, .f32⟩
  | .hbm, ⟨70, _⟩ => ⟨S2x4x16384x1, .f32⟩
  | .hbm, ⟨71, _⟩ => ⟨S2x4x16384x1, .f32⟩
  | .hbm, ⟨72, _⟩ => ⟨S2x4x16384x1, .f32⟩
  | .hbm, ⟨73, _⟩ => ⟨S2x4x16384x256, .f32⟩
  | .hbm, ⟨74, _⟩ => ⟨S2x4x16384x256, .f32⟩
  | .hbm, ⟨75, _⟩ => ⟨S1x1x1x256, .f32⟩
  | .hbm, ⟨76, _⟩ => ⟨S2x4x16384x256, .f32⟩
  | .hbm, ⟨77, _⟩ => ⟨S2x4x16384x256, .f32⟩
  | .hbm, ⟨78, _⟩ => ⟨S_, .f32⟩
  | .hbm, ⟨79, _⟩ => ⟨S2x4x16384x256, .f32⟩
  | .hbm, ⟨80, _⟩ => ⟨S2x4x16384x256, .f32⟩
  | .hbm, ⟨81, _⟩ => ⟨S2x16384x4x256, .f32⟩
  | .hbm, ⟨82, _⟩ => ⟨S32768x1024, .f32⟩
  | .hbm, ⟨83, _⟩ => ⟨S32768x1024, .bf16⟩
  | _, _ => ⟨S2x4x2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel2.lean ====
abbrev S2x16384x2048 : Shape := ⟨3, ![2, 16384, 2048]⟩
abbrev S1x2048x8192 : Shape := ⟨3, ![1, 2048, 8192]⟩
abbrev S1x8192x2048 : Shape := ⟨3, ![1, 8192, 2048]⟩
abbrev S32768x2048 : Shape := ⟨2, ![32768, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S1x2048x8192, .f32⟩
  | .hbm, ⟨2, _⟩ => ⟨S1x8192x2048, .f32⟩
  | .hbm, ⟨3, _⟩ => ⟨S32768x2048, .f32⟩
  | .hbm, ⟨4, _⟩ => ⟨S32768x2048, .bf16⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S2x16384x2048 : Shape := ⟨3, ![2, 16384, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S2x16384x8192 : Shape := ⟨3, ![2, 16384, 8192]⟩
abbrev S_ : Shape := ⟨0, ![]⟩
abbrev S8192x2048 : Shape := ⟨2, ![8192, 2048]⟩
abbrev S32768x2048 : Shape := ⟨2, ![32768, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048x8192, .f32⟩
  | .hbm, ⟨2, _⟩ => ⟨S1x8192x2048, .f32⟩
  | .hbm, ⟨3, _⟩ => ⟨S2048x8192, .f32⟩
  | .hbm, ⟨4, _⟩ => ⟨S2x16384x8192, .f32⟩
  | .hbm, ⟨5, _⟩ => ⟨S_, .f32⟩
  | .hbm, ⟨6, _⟩ => ⟨S2x16384x8192, .f32⟩
  | .hbm, ⟨7, _⟩ => ⟨S2x16384x8192, .f32⟩
  | .hbm, ⟨8, _⟩ => ⟨S2x16384x8192, .f32⟩
  | .hbm, ⟨9, _⟩ => ⟨S8192x2048, .f32⟩
  | .hbm, ⟨10, _⟩ => ⟨S2x16384x2048, .f32⟩
  | .hbm, ⟨11, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prog.lean ====
/- The kernel's body as a short program: one step of one chain (the scores of the next chain, then the
   softmax step of this one), a round of eight such steps, the own-chunk prologue, the closing blocks.
   Each piece is written in continuation-passing form, so that a rule of the piece is stated once. -/
module

public import proofs.«01_k».proof.Proof.Gen.KernelIdeal
public import Idealize.ShloMosaic.PureOps.Ideal

@[expose] public section

noncomputable section

namespace Cert.KernelIdeal.Hand

open Cert.KernelIdeal
open Idealize.ShloMosaic Idealize.SL.Sem
open Facts₀ Facts

variable {F : FTy → Type} [FloatOps F]

/-- The kernel's programs. -/
abbrev Pg (F : FTy → Type) (α : Type) := Prog (TpuEff nD τ sig (Elt F) Λ₀ .tc) α

/-! ## Pure pieces -/

/-- The scores of 256 keys against 256 queries. -/
def scoreV (k : FVec F S1x256x128 .bf16) (q : FVec F S128x256 .bf16) : FVec F S256x256 .f32 :=
  matmul dot_S256x128_S128x256_S256x256_1_0_0_1_n_n none (shapeCast S256x128 k shapeCasts_S1x256x128_S256x128) q
    (constant S256x256 .f32 0x00000000#32)

/-- The column maxima of a score block, down to eight rows. -/
def blkMax (s : FVec F S256x256 .f32) : FVec F S8x256 .f32 :=
  multiReduction .maximumf [0] S8x256 (shapeCast S32x8x256 s shapeCasts_S256x256_S32x8x256) 0xFF800000#32
    reduces_S32x8x256_S8x256 (.inl rfl) rfl

/-- The eight rows of maxima down to one. -/
def finMax (s : FVec F S8x256 .f32) : FVec F S1x256 .f32 :=
  shapeCast S1x256 (multiReduction .maximumf [0] S256 s 0xFF800000#32 reduces_S8x256_S256 (.inl rfl) rfl) shapeCasts_S256_S1x256

/-- The causal mask of a diagonal block: zero where the key is not after the query, `-∞` elsewhere. -/
def maskV : FVec F S256x256 .f32 :=
  select (cmpi .sle (iota .tc S256x256 32 [0] iota_S256x256_d0_w32) (iota .tc S256x256 32 [1] iota_S256x256_d1_w32))
    (broadcast S256x256 (Scalar.ofBits .f32 0x00000000#32)) (broadcast S256x256 (Scalar.ofBits .f32 0xFF800000#32))

/-- A score block with the causal mask added. -/
def masked (s : FVec F S256x256 .f32) : FVec F S256x256 .f32 := addf s maskV

/-- What the softmax step of `w` keys needs of the shapes. -/
structure Wid (w : ℕ) : Prop where
  hs : 0 < (⟨2, ![w, 256]⟩ : Shape).numel
  hv1 : 0 < (⟨3, ![1, 128, w]⟩ : Shape).numel
  hv2 : 0 < (⟨3, ![1, 144, w]⟩ : Shape).numel
  inb : ∀ a, (![0, 0] : Fin 2 → ℕ) a + (⟨2, ![w, 256]⟩ : Shape).size a ≤ S1024x256.size a
  bc : S1x256.Broadcasts ⟨2, ![w, 256]⟩
  c1 : (⟨3, ![1, 128, w]⟩ : Shape).ShapeCasts ⟨2, ![128, w]⟩
  c2 : (⟨3, ![1, 144, w]⟩ : Shape).ShapeCasts ⟨2, ![144, w]⟩
  cc : Shape.Concatenates [(⟨2, ![128, w]⟩ : Shape), ⟨2, ![144, w]⟩] ⟨2, ![272, w]⟩ 0
  wf : DotDims.WF ⟨2, ![272, w]⟩ ⟨2, ![w, 256]⟩ S272x256 [1] [0] [0] [1] [] []

theorem wid1024 : Wid 1024 := ⟨h_S1024x256, h_S1x128x1024, h_S1x144x1024, inb_S1024x256_S1024x256_0_0, broadcasts_S1x256_S1024x256,
  shapeCasts_S1x128x1024_S128x1024, shapeCasts_S1x144x1024_S144x1024, concatenates_S128x1024_S144x1024_S272x1024_d0,
  dot_S272x1024_S1024x256_S272x256_1_0_0_1_n_n_wf⟩
theorem wid768 : Wid 768 := ⟨h_S768x256, h_S1x128x768, h_S1x144x768, inb_S1024x256_S768x256_0_0, broadcasts_S1x256_S768x256,
  shapeCasts_S1x128x768_S128x768, shapeCasts_S1x144x768_S144x768, concatenates_S128x768_S144x768_S272x768_d0,
  dot_S272x768_S768x256_S272x256_1_0_0_1_n_n_wf⟩
theorem wid512 : Wid 512 := ⟨h_S512x256, h_S1x128x512, h_S1x144x512, inb_S1024x256_S512x256_0_0, broadcasts_S1x256_S512x256,
  shapeCasts_S1x128x512_S128x512, shapeCasts_S1x144x512_S144x512, concatenates_S128x512_S144x512_S272x512_d0,
  dot_S272x512_S512x256_S272x256_1_0_0_1_n_n_wf⟩
theorem wid256 : Wid 256 := ⟨h_S256x256, h_S1x128x256, h_S1x144x256, inb_S1024x256_S256x256_0_0, broadcasts_S1x256_S256x256,
  shapeCasts_S1x128x256_S128x256, shapeCasts_S1x144x256_S144x256, concatenates_S128x256_S144x256_S272x256_d0,
  dot_S272x256_S256x256_S272x256_1_0_0_1_n_n_wf⟩

section Width
variable {w : ℕ} (W : Wid w)
include W

/-- The weights of `w` keys: two to the power of the scores less the maximum, rounded. -/
def pV (m : FVec F S1x256 .f32) (s : FVec F ⟨2, ![w, 256]⟩ .f32) : FVec F ⟨2, ![w, 256]⟩ .bf16 :=
  truncf .bf16 (exp2 (subf s (broadcastTo ⟨2, ![w, 256]⟩ m W.bc))) bitsLt_bf16_f32

/-- The values of `w` keys (with the row of ones) times their weights. -/
def updV (vl : FVec F ⟨3, ![1, 128, w]⟩ .bf16) (vh : FVec F ⟨3, ![1, 144, w]⟩ .bf16) (p : FVec F ⟨2, ![w, 256]⟩ .bf16) :
    FVec F S272x256 .f32 :=
  matmul { lhsContracting := [1], rhsContracting := [0], lhsNonContracting := [0], rhsNonContracting := [1],
           lhsBatch := [], rhsBatch := [], wf := W.wf } none
    (concatenate ⟨2, ![272, w]⟩ 0 [⟨⟨2, ![128, w]⟩, shapeCast ⟨2, ![128, w]⟩ vl W.c1⟩, ⟨⟨2, ![144, w]⟩, shapeCast ⟨2, ![144, w]⟩ vh W.c2⟩] W.cc)
    p (constant S272x256 .f32 0x00000000#32)

end Width

/-- The first accumulator of a chain. -/
def accInit {w : ℕ} (W : Wid w) (m : FVec F S1x256 .f32) (s : FVec F ⟨2, ![w, 256]⟩ .f32) (vl : FVec F ⟨3, ![1, 128, w]⟩ .bf16)
    (vh : FVec F ⟨3, ![1, 144, w]⟩ .bf16) : FVec F S1x272x256 .f32 :=
  shapeCast S1x272x256 (updV W vl vh (pV W m s)) shapeCasts_S272x256_S1x272x256

/-- A chain's accumulator after one more chunk. -/
def accNext (m mc : FVec F S1x256 .f32) (s : FVec F S1024x256 .f32) (vl : FVec F S1x128x1024 .bf16)
    (vh : FVec F S1x144x1024 .bf16) (a : FVec F S1x272x256 .f32) : FVec F S1x272x256 .f32 :=
  shapeCast S1x272x256
    (addf (mulf (broadcastTo S272x256 (exp2 (subf m (maximumf m mc))) broadcasts_S1x256_S272x256)
        (shapeCast S272x256 a shapeCasts_S1x272x256_S272x256))
      (updV wid1024 vl vh (pV wid1024 (maximumf m mc) s))) shapeCasts_S272x256_S1x272x256

/-- The difference's weight from its four vectors. -/
def lamV (a b c d : FVec F S1x128 .f32) : FVec F S1x1 .f32 :=
  addf (subf
      (exp (shapeCast S1x1 (multiReduction .add [1] S1 (mulf (shapeCast S1x128 a shapeCasts_S1x128_S1x128) (shapeCast S1x128 b shapeCasts_S1x128_S1x128))
        0x00000000#32 reduces_S1x128_S1 (.inl rfl) rfl) shapeCasts_S1_S1x1))
      (exp (shapeCast S1x1 (multiReduction .add [1] S1 (mulf (shapeCast S1x128 c shapeCasts_S1x128_S1x128) (shapeCast S1x128 d shapeCasts_S1x128_S1x128))
        0x00000000#32 reduces_S1x128_S1 (.inl rfl) rfl) shapeCasts_S1_S1x1)))
    (broadcast S1x1 (Scalar.ofBits .f32 0x3E4CCCCD#32))

/-- The difference of the two normalised halves of one block of queries. -/
def diffV (lam : FVec F S1x1 .f32) (a b : FVec F S1x272x256 .f32) : FVec F S256x256 .f32 :=
  subf
    (mulf (extractStridedSlice S256x256 ![0, 0] (shapeCast S272x256 a shapeCasts_S1x272x256_S272x256) slices_S272x256_o0_0_S256x256)
      (broadcastTo S256x256 (divf (broadcast S1x256 (Scalar.ofBits .f32 0x3F800000#32))
        (extractStridedSlice S1x256 ![256, 0] (shapeCast S272x256 a shapeCasts_S1x272x256_S272x256) slices_S272x256_o256_0_S1x256)) broadcasts_S1x256_S256x256))
    (mulf (extractStridedSlice S256x256 ![0, 0] (shapeCast S272x256 b shapeCasts_S1x272x256_S272x256) slices_S272x256_o0_0_S256x256)
      (broadcastTo S256x256 (divf (broadcastTo S1x256 lam broadcasts_S1x1_S1x256)
        (extractStridedSlice S1x256 ![256, 0] (shapeCast S272x256 b shapeCasts_S1x272x256_S272x256) slices_S272x256_o256_0_S1x256)) broadcasts_S1x256_S256x256))

/-- The normalised, weighted, transposed output block. -/
def outV (o : FVec F S256x256 .f32) (g : FVec F S256x1 .f32) : FVec F S256x256 .bf16 :=
  truncf .bf16 (transpose S256x256 [1, 0]
    (mulf (mulf (mulf o (broadcastTo S256x256 (rsqrt (addf (divf
        (shapeCast S1x256 (multiReduction .add [0] S256 (mulf o o) 0x00000000#32 reduces_S256x256_S256 (.inl rfl) rfl) shapeCasts_S256_S1x256)
        (broadcast S1x256 (Scalar.ofBits .f32 0x43800000#32))) (broadcast S1x256 (Scalar.ofBits .f32 0x358637BD#32)))) broadcasts_S1x256_S256x256))
      (broadcastTo S256x256 (shapeCast S256x1 g shapeCasts_S256x1_S256x1) broadcasts_S256x1_S256x256))
      (broadcast S256x256 (Scalar.ofBits .f32 0x3F4CCCCD#32))) transposes_S256x256_p1_0_S256x256) bitsLt_bf16_f32

/-! ## Steps -/

section Steps
variable {α : Type}

/-- One block of scores: 256 keys read, their scores stored, the scores handed on. -/
def scoreStep (K : Memref sig .tc .vmem S1x16384x128 .bf16) (off : Fin 3 → ℕ) (hk : ∀ a, off a + S1x256x128.size a ≤ S1x16384x128.size a)
    (S : Memref sig .tc .vmem S1024x256 .f32) (ro : Fin 2 → ℕ) (hr : ∀ a, ro a + S256x256.size a ≤ S1024x256.size a)
    (q : FVec F S128x256 .bf16) (post : FVec F S256x256 .f32 → FVec F S256x256 .f32) (k : FVec F S256x256 .f32 → Pg F α) : Pg F α :=
  .op (.load K (Rect.unit (s := S1x16384x128) off S1x256x128.size hk).toLoadRect (View.loadsAt_vmem h_S1x256x128)) fun (kv : Vec F S1x256x128 .bf16) =>
  .op (.load S (Rect.unit (s := S1024x256) ro S256x256.size hr).toLoadRect (View.loadsAt_vmem h_S256x256)) fun _ =>
  .op (.store S (Rect.unit (s := S1024x256) ro S256x256.size hr) (shapeCast S256x256 (post (scoreV kv q)) shapeCasts_S256x256_S256x256) Finset.univ
    (View.stores_vmem_bits_univ h_S256x256 rfl) (.inl rfl)) fun _ => k (post (scoreV kv q))

variable (K : Memref sig .tc .vmem S1x16384x128 .bf16) (koff : Fin 4 → Fin 3 → ℕ)
  (hk : ∀ r a, koff r a + S1x256x128.size a ≤ S1x16384x128.size a) (S : Memref sig .tc .vmem S1024x256 .f32) (q : FVec F S128x256 .bf16)
  (post : FVec F S256x256 .f32 → FVec F S256x256 .f32)

/-- The scores of 1024 keys and their column maxima; `post` acts on the last block. -/
def scores4 (k : FVec F S1x256 .f32 → Pg F α) : Pg F α :=
  scoreStep K (koff 0) (hk 0) S ![0, 0] inb_S1024x256_S256x256_0_0 q (fun s => s) fun s0 =>
  scoreStep K (koff 1) (hk 1) S ![256, 0] inb_S1024x256_S256x256_256_0 q (fun s => s) fun s1 =>
  scoreStep K (koff 2) (hk 2) S ![512, 0] inb_S1024x256_S256x256_512_0 q (fun s => s) fun s2 =>
  scoreStep K (koff 3) (hk 3) S ![768, 0] inb_S1024x256_S256x256_768_0 q post fun s3 =>
  k (finMax (maximumf (maximumf (maximumf (blkMax s0) (blkMax s1)) (blkMax s2)) (blkMax s3)))

/-- The same of 768 keys. -/
def scores3 (k : FVec F S1x256 .f32 → Pg F α) : Pg F α :=
  scoreStep K (koff 0) (hk 0) S ![0, 0] inb_S1024x256_S256x256_0_0 q (fun s => s) fun s0 =>
  scoreStep K (koff 1) (hk 1) S ![256, 0] inb_S1024x256_S256x256_256_0 q (fun s => s) fun s1 =>
  scoreStep K (koff 2) (hk 2) S ![512, 0] inb_S1024x256_S256x256_512_0 q post fun s2 =>
  k (finMax (maximumf (maximumf (blkMax s0) (blkMax s1)) (blkMax s2)))

/-- The same of 512 keys. -/
def scores2 (k : FVec F S1x256 .f32 → Pg F α) : Pg F α :=
  scoreStep K (koff 0) (hk 0) S ![0, 0] inb_S1024x256_S256x256_0_0 q (fun s => s) fun s0 =>
  scoreStep K (koff 1) (hk 1) S ![256, 0] inb_S1024x256_S256x256_256_0 q post fun s1 =>
  k (finMax (maximumf (blkMax s0) (blkMax s1)))

/-- The same of 256 keys. -/
def scores1 (k : FVec F S1x256 .f32 → Pg F α) : Pg F α :=
  scoreStep K (koff 0) (hk 0) S ![0, 0] inb_S1024x256_S256x256_0_0 q post fun s0 =>
  k (finMax (blkMax s0))

end Steps

section Soft
variable {α : Type} (VL VH : Memref sig .tc .vmem S1x144x16384 .bf16) (ACC : Memref sig .tc .vmem S8x272x256 .f32)

/-- The first softmax step of a chain, over `w` keys of its own chunk. -/
def soft0 {w : ℕ} (W : Wid w) (SC : Memref sig .tc .vmem S1024x256 .f32)
    (oL : Fin 3 → ℕ) (hL : ∀ a, oL a + (⟨3, ![1, 128, w]⟩ : Shape).size a ≤ S1x144x16384.size a)
    (oH : Fin 3 → ℕ) (hH : ∀ a, oH a + (⟨3, ![1, 144, w]⟩ : Shape).size a ≤ S1x144x16384.size a)
    (ao : Fin 3 → ℕ) (ha : ∀ a, ao a + S1x272x256.size a ≤ S8x272x256.size a)
    (m : FVec F S1x256 .f32) (k : Pg F α) : Pg F α :=
  .op (.load SC (Rect.unit (s := S1024x256) ![0, 0] (⟨2, ![w, 256]⟩ : Shape).size W.inb).toLoadRect (View.loadsAt_vmem W.hs)) fun (s : Vec F ⟨2, ![w, 256]⟩ .f32) =>
  .op (.load VL (Rect.unit (s := S1x144x16384) oL (⟨3, ![1, 128, w]⟩ : Shape).size hL).toLoadRect (View.loadsAt_vmem W.hv1)) fun (vl : Vec F ⟨3, ![1, 128, w]⟩ .bf16) =>
  .op (.load VH (Rect.unit (s := S1x144x16384) oH (⟨3, ![1, 144, w]⟩ : Shape).size hH).toLoadRect (View.loadsAt_vmem W.hv2)) fun (vh : Vec F ⟨3, ![1, 144, w]⟩ .bf16) =>
  .op (.load ACC (Rect.unit (s := S8x272x256) ao S1x272x256.size ha).toLoadRect (View.loadsAt_vmem h_S1x272x256)) fun _ =>
  .op (.store ACC (Rect.unit (s := S8x272x256) ao S1x272x256.size ha) (accInit W m s vl vh) Finset.univ
    (View.stores_vmem_bits_univ h_S1x272x256 rfl) (.inl rfl)) fun _ => k

/-- A later softmax step of a chain, over one chunk of 1024 keys. -/
def softN (SC : Memref sig .tc .vmem S1024x256 .f32)
    (oL : Fin 3 → ℕ) (hL : ∀ a, oL a + S1x128x1024.size a ≤ S1x144x16384.size a)
    (oH : Fin 3 → ℕ) (hH : ∀ a, oH a + S1x144x1024.size a ≤ S1x144x16384.size a)
    (ao : Fin 3 → ℕ) (ha : ∀ a, ao a + S1x272x256.size a ≤ S8x272x256.size a)
    (m mc : FVec F S1x256 .f32) (k : Pg F α) : Pg F α :=
  .op (.load SC (Rect.unit (s := S1024x256) ![0, 0] S1024x256.size inb_S1024x256_S1024x256_0_0).toLoadRect (View.loadsAt_vmem h_S1024x256)) fun (s : Vec F S1024x256 .f32) =>
  .op (.load VL (Rect.unit (s := S1x144x16384) oL S1x128x1024.size hL).toLoadRect (View.loadsAt_vmem h_S1x128x1024)) fun (vl : Vec F S1x128x1024 .bf16) =>
  .op (.load VH (Rect.unit (s := S1x144x16384) oH S1x144x1024.size hH).toLoadRect (View.loadsAt_vmem h_S1x144x1024)) fun (vh : Vec F S1x144x1024 .bf16) =>
  .op (.load ACC (Rect.unit (s := S8x272x256) ao S1x272x256.size ha).toLoadRect (View.loadsAt_vmem h_S1x272x256)) fun (a : Vec F S1x272x256 .f32) =>
  .op (.load ACC (Rect.unit (s := S8x272x256) ao S1x272x256.size ha).toLoadRect (View.loadsAt_vmem h_S1x272x256)) fun _ =>
  .op (.store ACC (Rect.unit (s := S8x272x256) ao S1x272x256.size ha) (accNext m mc s vl vh a) Finset.univ
    (View.stores_vmem_bits_univ h_S1x272x256 rfl) (.inl rfl)) fun _ => k

end Soft

/-- The eight chains' queries. -/
structure Qs (F : FTy → Type) where
  (q0 q1 q2 q3 q4 q5 q6 q7 : FVec F S128x256 .bf16)

/-- What a loop carries: the eight chains' maxima and the maxima of the chunk in hand. -/
abbrev St (F : FTy → Type) [FloatOps F] :=
  FVec F S1x256 .f32 × FVec F S1x256 .f32 × FVec F S1x256 .f32 × FVec F S1x256 .f32 × FVec F S1x256 .f32 × FVec F S1x256 .f32 ×
    FVec F S1x256 .f32 × FVec F S1x256 .f32 × FVec F S1x256 .f32

/-- The kernel's buffers. -/
structure Bufs where
  (qa qb : Memref sig .tc .vmem S1x128x1024 .bf16)
  (ka kb : Memref sig .tc .vmem S1x16384x128 .bf16)
  (vl vh : Memref sig .tc .vmem S1x144x16384 .bf16)
  (la lb lc ld : Memref sig .tc .vmem S1x128 .f32)
  (g : Memref sig .tc .vmem S256x1 .f32)
  (o : Memref sig .tc .vmem S1024x256 .bf16) (ho : o.IsWhole)
  (acc : Memref sig .tc .vmem S8x272x256 .f32)
  (s0 s1 s2 s3 s4 s5 s6 s7 : Memref sig .tc .vmem S1024x256 .f32)

section Round
variable {α : Type} (B : Bufs) (Q : Qs F)

/-- Where a round reads: its chunk's keys, values, and the next chunk's keys. -/
structure Offs where
  ko : Fin 4 → Fin 3 → ℕ
  hk : ∀ r a, ko r a + S1x256x128.size a ≤ S1x16384x128.size a
  lo : Fin 3 → ℕ
  hl : ∀ a, lo a + S1x128x1024.size a ≤ S1x144x16384.size a
  ho : Fin 3 → ℕ
  hh : ∀ a, ho a + S1x144x1024.size a ≤ S1x144x16384.size a
  no : Fin 4 → Fin 3 → ℕ
  hn : ∀ r a, no r a + S1x256x128.size a ≤ S1x16384x128.size a

/-- One chunk through the eight chains. -/
def round (O : Offs) (m : St F) (k : St F → Pg F α) : Pg F α :=
  match m with
  | (m0, m1, m2, m3, m4, m5, m6, m7, c0) =>
  scores4 B.kb O.ko O.hk B.s1 Q.q1 (fun s => s) fun c1 =>
  softN B.vl B.vh B.acc B.s0 O.lo O.hl O.ho O.hh ![0, 0, 0] inb_S8x272x256_S1x272x256_0_0_0 m0 c0 <|
  scores4 B.ka O.ko O.hk B.s2 Q.q2 (fun s => s) fun c2 =>
  softN B.vl B.vh B.acc B.s1 O.lo O.hl O.ho O.hh ![1, 0, 0] inb_S8x272x256_S1x272x256_1_0_0 m1 c1 <|
  scores4 B.kb O.ko O.hk B.s3 Q.q3 (fun s => s) fun c3 =>
  softN B.vl B.vh B.acc B.s2 O.lo O.hl O.ho O.hh ![2, 0, 0] inb_S8x272x256_S1x272x256_2_0_0 m2 c2 <|
  scores4 B.ka O.ko O.hk B.s4 Q.q4 (fun s => s) fun c4 =>
  softN B.vl B.vh B.acc B.s3 O.lo O.hl O.ho O.hh ![3, 0, 0] inb_S8x272x256_S1x272x256_3_0_0 m3 c3 <|
  scores4 B.kb O.ko O.hk B.s5 Q.q5 (fun s => s) fun c5 =>
  softN B.vl B.vh B.acc B.s4 O.lo O.hl O.ho O.hh ![4, 0, 0] inb_S8x272x256_S1x272x256_4_0_0 m4 c4 <|
  scores4 B.ka O.ko O.hk B.s6 Q.q6 (fun s => s) fun c6 =>
  softN B.vl B.vh B.acc B.s5 O.lo O.hl O.ho O.hh ![5, 0, 0] inb_S8x272x256_S1x272x256_5_0_0 m5 c5 <|
  scores4 B.kb O.ko O.hk B.s7 Q.q7 (fun s => s) fun c7 =>
  softN B.vl B.vh B.acc B.s6 O.lo O.hl O.ho O.hh ![6, 0, 0] inb_S8x272x256_S1x272x256_6_0_0 m6 c6 <|
  scores4 B.ka O.no O.hn B.s0 Q.q0 (fun s => s) fun c8 =>
  softN B.vl B.vh B.acc B.s7 O.lo O.hl O.ho O.hh ![7, 0, 0] inb_S8x272x256_S1x272x256_7_0_0 m7 c7 <|
  k (maximumf m0 c0, maximumf m1 c1, maximumf m2 c2, maximumf m3 c3, maximumf m4 c4, maximumf m5 c5, maximumf m6 c6, maximumf m7 c7, c8)

end Round

/-- The reads of round `u` of trip `k` of the loop by fours. -/
def offs1 (i : grid0.Coords) (k : Fin (k0_t1_loop i).trips) (u : Fin 4) : Offs where
  ko r := k0_off10 i k (BitVec.ofNat 32 u.val) (BitVec.ofNat 32 (256 * r.val))
  hk r := k0_off10_inb i k u r
  lo := k0_off11 i k (BitVec.ofNat 32 u.val)
  hl := k0_off11_inb i k u
  ho := k0_off12 i k (BitVec.ofNat 32 u.val)
  hh := k0_off12_inb i k u
  no r := k0_off13 i k (BitVec.ofNat 32 u.val) (BitVec.ofNat 32 (256 * r.val))
  hn r := k0_off13_inb i k u r

/-- The reads of round `u` of trip `k` of the loop by twos. -/
def offs3 (i : grid0.Coords) (k : Fin (k0_t3_loop i).trips) (u : Fin 2) : Offs where
  ko r := k0_off18 i k (BitVec.ofNat 32 u.val) (BitVec.ofNat 32 (256 * r.val))
  hk r := k0_off18_inb i k u r
  lo := k0_off19 i k (BitVec.ofNat 32 u.val)
  hl := k0_off19_inb i k u
  ho := k0_off20 i k (BitVec.ofNat 32 u.val)
  hh := k0_off20_inb i k u
  no r := k0_off21 i k (BitVec.ofNat 32 u.val) (BitVec.ofNat 32 (256 * r.val))
  hn r := k0_off21_inb i k u r

/-- The reads of trip `k` of the loop by ones. -/
def offs5 (i : grid0.Coords) (k : Fin (k0_t5_loop i).trips) : Offs where
  ko r := k0_off26 i k (BitVec.ofNat 32 (256 * r.val))
  hk r := k0_off26_inb i k r
  lo := k0_off27 i k
  hl := k0_off27_inb i k
  ho := k0_off28 i k
  hh := k0_off28_inb i k
  no r := k0_off29 i k (BitVec.ofNat 32 (256 * r.val))
  hn r := k0_off29_inb i k r

/-- The region of the loop by fours. -/
def body1 (B : Bufs) (Q : Qs F) (i : grid0.Coords) (k : Fin (k0_t1_loop i).trips) (m : St F) : Pg F (St F) :=
  round B Q (offs1 i k 0) m fun m => round B Q (offs1 i k 1) m fun m => round B Q (offs1 i k 2) m fun m => round B Q (offs1 i k 3) m .ret

/-- The region of the loop by twos. -/
def body3 (B : Bufs) (Q : Qs F) (i : grid0.Coords) (k : Fin (k0_t3_loop i).trips) (m : St F) : Pg F (St F) :=
  round B Q (offs3 i k 0) m fun m => round B Q (offs3 i k 1) m .ret

/-- The region of the loop by ones. -/
def body5 (B : Bufs) (Q : Qs F) (i : grid0.Coords) (k : Fin (k0_t5_loop i).trips) (m : St F) : Pg F (St F) :=
  round B Q (offs5 i k) m .ret

/-! ## The whole body -/

/-- A block of queries of one half, read. -/
def loadQ {α : Type} (A : Memref sig .tc .vmem S1x128x1024 .bf16) (off : Fin 3 → ℕ) (h : ∀ a, off a + S1x128x256.size a ≤ S1x128x1024.size a)
    (k : FVec F S1x128x256 .bf16 → Pg F α) : Pg F α :=
  .op (.load A (Rect.unit (s := S1x128x1024) off S1x128x256.size h).toLoadRect (View.loadsAt_vmem h_S1x128x256)) k

/-- The queries of a chain as a matrix. -/
def castQ (x : FVec F S1x128x256 .bf16) : FVec F S128x256 .bf16 := shapeCast S128x256 x shapeCasts_S1x128x256_S128x256

/-- Where the own chunk's keys lie. -/
def ownK (i : grid0.Coords) (r : Fin 4) : Fin 3 → ℕ := k0_off1 i (BitVec.ofNat 32 (256 * r.val))
theorem ownK_inb (i : grid0.Coords) (r : Fin 4) : ∀ a, ownK i r a + S1x256x128.size a ≤ S1x16384x128.size a := k0_off1_inb i r

/-- Where the first chunk's keys lie. -/
def headK : Fin 4 → Fin 3 → ℕ
  | 0 => ![0, 0, 0] | 1 => ![0, 256, 0] | 2 => ![0, 512, 0] | 3 => ![0, 768, 0]
theorem headK_inb : ∀ (r : Fin 4) (a), headK r a + S1x256x128.size a ≤ S1x16384x128.size a
  | 0 => inb_S1x16384x128_S1x256x128_0_0_0 | 1 => inb_S1x16384x128_S1x256x128_0_256_0
  | 2 => inb_S1x16384x128_S1x256x128_0_512_0 | 3 => inb_S1x16384x128_S1x256x128_0_768_0

/-- The own chunk through the eight chains, and the first chunk's scores of the first chain. -/
def prologue {α : Type} (B : Bufs) (Q : Qs F) (i : grid0.Coords) (k : St F → Pg F α) : Pg F α :=
  scores4 B.ka (ownK i) (ownK_inb i) B.s0 Q.q0 masked fun m0 =>
  scores4 B.kb (ownK i) (ownK_inb i) B.s1 Q.q1 masked fun m1 =>
  soft0 B.vl B.vh B.acc wid1024 B.s0 (k0_off2 i) (k0_off2_inb i) (k0_off3 i) (k0_off3_inb i) ![0, 0, 0] inb_S8x272x256_S1x272x256_0_0_0 m0 <|
  scores3 B.ka (ownK i) (ownK_inb i) B.s2 Q.q2 masked fun m2 =>
  soft0 B.vl B.vh B.acc wid1024 B.s1 (k0_off2 i) (k0_off2_inb i) (k0_off3 i) (k0_off3_inb i) ![1, 0, 0] inb_S8x272x256_S1x272x256_1_0_0 m1 <|
  scores3 B.kb (ownK i) (ownK_inb i) B.s3 Q.q3 masked fun m3 =>
  soft0 B.vl B.vh B.acc wid768 B.s2 (k0_off4 i) (k0_off4_inb i) (k0_off5 i) (k0_off5_inb i) ![2, 0, 0] inb_S8x272x256_S1x272x256_2_0_0 m2 <|
  scores2 B.ka (ownK i) (ownK_inb i) B.s4 Q.q4 masked fun m4 =>
  soft0 B.vl B.vh B.acc wid768 B.s3 (k0_off4 i) (k0_off4_inb i) (k0_off5 i) (k0_off5_inb i) ![3, 0, 0] inb_S8x272x256_S1x272x256_3_0_0 m3 <|
  scores2 B.kb (ownK i) (ownK_inb i) B.s5 Q.q5 masked fun m5 =>
  soft0 B.vl B.vh B.acc wid512 B.s4 (k0_off6 i) (k0_off6_inb i) (k0_off7 i) (k0_off7_inb i) ![4, 0, 0] inb_S8x272x256_S1x272x256_4_0_0 m4 <|
  scores1 B.ka (ownK i) (ownK_inb i) B.s6 Q.q6 masked fun m6 =>
  soft0 B.vl B.vh B.acc wid512 B.s5 (k0_off6 i) (k0_off6_inb i) (k0_off7 i) (k0_off7_inb i) ![5, 0, 0] inb_S8x272x256_S1x272x256_5_0_0 m5 <|
  scores1 B.kb (ownK i) (ownK_inb i) B.s7 Q.q7 masked fun m7 =>
  soft0 B.vl B.vh B.acc wid256 B.s6 (k0_off8 i) (k0_off8_inb i) (k0_off9 i) (k0_off9_inb i) ![6, 0, 0] inb_S8x272x256_S1x272x256_6_0_0 m6 <|
  scores4 B.ka headK headK_inb B.s0 Q.q0 (fun s => s) fun c =>
  soft0 B.vl B.vh B.acc wid256 B.s7 (k0_off8 i) (k0_off8_inb i) (k0_off9 i) (k0_off9_inb i) ![7, 0, 0] inb_S8x272x256_S1x272x256_7_0_0 m7 <|
  k (m0, m1, m2, m3, m4, m5, m6, m7, c)

/-- The difference's weight, read and computed. -/
def loadLam {α : Type} (B : Bufs) (k : FVec F S1x1 .f32 → Pg F α) : Pg F α :=
  .op (.load B.la (Rect.unit (s := S1x128) ![0, 0] S1x128.size inb_S1x128_S1x128_0_0).toLoadRect (View.loadsAt_vmem h_S1x128)) fun (a : Vec F S1x128 .f32) =>
  .op (.load B.lb (Rect.unit (s := S1x128) ![0, 0] S1x128.size inb_S1x128_S1x128_0_0).toLoadRect (View.loadsAt_vmem h_S1x128)) fun (b : Vec F S1x128 .f32) =>
  .op (.load B.lc (Rect.unit (s := S1x128) ![0, 0] S1x128.size inb_S1x128_S1x128_0_0).toLoadRect (View.loadsAt_vmem h_S1x128)) fun (c : Vec F S1x128 .f32) =>
  .op (.load B.ld (Rect.unit (s := S1x128) ![0, 0] S1x128.size inb_S1x128_S1x128_0_0).toLoadRect (View.loadsAt_vmem h_S1x128)) fun (d : Vec F S1x128 .f32) =>
  k (lamV a b c d)

/-- One block of queries closed: its two accumulators read, its output block stored. -/
def closeStep {α : Type} (B : Bufs) (ao : Fin 3 → ℕ) (ha : ∀ a, ao a + S1x272x256.size a ≤ S8x272x256.size a)
    (bo : Fin 3 → ℕ) (hb : ∀ a, bo a + S1x272x256.size a ≤ S8x272x256.size a)
    (ro : Fin 2 → ℕ) (hr : ∀ a, ro a + S256x256.size a ≤ S1024x256.size a)
    (pk : (Rect.unit (s := S1024x256) ro S256x256.size hr).PackedRows (EltTy.packing .bf16))
    (lam : FVec F S1x1 .f32) (k : Pg F α) : Pg F α :=
  .op (.load B.acc (Rect.unit (s := S8x272x256) ao S1x272x256.size ha).toLoadRect (View.loadsAt_vmem h_S1x272x256)) fun (a : Vec F S1x272x256 .f32) =>
  .op (.load B.acc (Rect.unit (s := S8x272x256) bo S1x272x256.size hb).toLoadRect (View.loadsAt_vmem h_S1x272x256)) fun (b : Vec F S1x272x256 .f32) =>
  .op (.load B.g (Rect.unit (s := S256x1) ![0, 0] S256x1.size inb_S256x1_S256x1_0_0).toLoadRect (View.loadsAt_vmem h_S256x1)) fun (g : Vec F S256x1 .f32) =>
  .op (.load B.o (Rect.unit (s := S1024x256) ro S256x256.size hr).toLoadRect (View.loadsAt_vmem h_S256x256)) fun _ =>
  .op (.store B.o (Rect.unit (s := S1024x256) ro S256x256.size hr) (outV (diffV lam a b) g) Finset.univ
    (View.stores_vmem h_S256x256 (B.ho.storeExact_slice rfl _ pk) (fun _ => rfl)) (.inl rfl)) fun _ => k

/-- The four closing blocks. -/
def closing (B : Bufs) : Pg F PUnit :=
  loadLam B fun lam =>
  closeStep B ![6, 0, 0] inb_S8x272x256_S1x272x256_6_0_0 ![7, 0, 0] inb_S8x272x256_S1x272x256_7_0_0
    ![0, 0] inb_S1024x256_S256x256_0_0 packedbf16_S1024x256_S256x256_0_0 lam <|
  closeStep B ![4, 0, 0] inb_S8x272x256_S1x272x256_4_0_0 ![5, 0, 0] inb_S8x272x256_S1x272x256_5_0_0
    ![256, 0] inb_S1024x256_S256x256_256_0 packedbf16_S1024x256_S256x256_256_0 lam <|
  closeStep B ![2, 0, 0] inb_S8x272x256_S1x272x256_2_0_0 ![3, 0, 0] inb_S8x272x256_S1x272x256_3_0_0
    ![512, 0] inb_S1024x256_S256x256_512_0 packedbf16_S1024x256_S256x256_512_0 lam <|
  closeStep B ![0, 0, 0] inb_S8x272x256_S1x272x256_0_0_0 ![1, 0, 0] inb_S8x272x256_S1x272x256_1_0_0
    ![768, 0] inb_S1024x256_S256x256_768_0 packedbf16_S1024x256_S256x256_768_0 lam <|
  .ret ⟨⟩

/-- The eight chains' queries, read. -/
def loadQs {α : Type} (B : Bufs) (k : FVec F S1x128x256 .bf16 → FVec F S1x128x256 .bf16 → FVec F S1x128x256 .bf16 → FVec F S1x128x256 .bf16 →
    FVec F S1x128x256 .bf16 → FVec F S1x128x256 .bf16 → FVec F S1x128x256 .bf16 → FVec F S1x128x256 .bf16 → Pg F α) : Pg F α :=
  loadQ B.qa ![0, 0, 768] inb_S1x128x1024_S1x128x256_0_0_768 fun x0 =>
  loadQ B.qb ![0, 0, 768] inb_S1x128x1024_S1x128x256_0_0_768 fun x1 =>
  loadQ B.qa ![0, 0, 512] inb_S1x128x1024_S1x128x256_0_0_512 fun x2 =>
  loadQ B.qb ![0, 0, 512] inb_S1x128x1024_S1x128x256_0_0_512 fun x3 =>
  loadQ B.qa ![0, 0, 256] inb_S1x128x1024_S1x128x256_0_0_256 fun x4 =>
  loadQ B.qb ![0, 0, 256] inb_S1x128x1024_S1x128x256_0_0_256 fun x5 =>
  loadQ B.qa ![0, 0, 0] inb_S1x128x1024_S1x128x256_0_0_0 fun x6 =>
  loadQ B.qb ![0, 0, 0] inb_S1x128x1024_S1x128x256_0_0_0 fun x7 =>
  k x0 x1 x2 x3 x4 x5 x6 x7

/-- The queries as the chains take them. -/
def mkQs (x0 x1 x2 x3 x4 x5 x6 x7 : FVec F S1x128x256 .bf16) : Qs F :=
  ⟨castQ x0, castQ x1, castQ x2, castQ x3, castQ x4, castQ x5, castQ x6, castQ x7⟩

/-- The whole body. The three remainder loops the kernel has behind these make no trip. -/
def whole (B : Bufs) (i : grid0.Coords) : Pg F PUnit :=
  loadQs B fun x0 x1 x2 x3 x4 x5 x6 x7 =>
  prologue B (mkQs x0 x1 x2 x3 x4 x5 x6 x7) i fun m =>
  Scf.Loop.for (k0_t1_loop i) (k0_t1_ok i) m (body1 B (mkQs x0 x1 x2 x3 x4 x5 x6 x7) i) >>= fun m =>
  Scf.Loop.for (k0_t3_loop i) (k0_t3_ok i) m (body3 B (mkQs x0 x1 x2 x3 x4 x5 x6 x7) i) >>= fun m =>
  Scf.Loop.for (k0_t5_loop i) (k0_t5_ok i) m (body5 B (mkQs x0 x1 x2 x3 x4 x5 x6 x7) i) >>= fun _ =>
  closing B

end Cert.KernelIdeal.Hand
-- ==== Proof.Pure.lean ====
/- What one grid point computes, as plain functions of the arrays it reads: each of the eight chains is a
   maximum and an accumulator, started at the point's own chunk of keys and carried over the chunks before it.
   Beside them, the windows and stacks of blocks the buffers hold. -/
module

public import proofs.«01_k».proof.Proof.Prog
public import Idealize.ShloMosaic.Lib.VecWindow
public import Idealize.ShloMosaic.Lib.ValueIdx
public import Idealize.ShloMosaic.Lib.ValueIdxCoords

@[expose] public section

noncomputable section

namespace Cert.KernelIdeal.Hand

open Cert.KernelIdeal
open Idealize.ShloMosaic Idealize.SL.Sem Idealize.ShloMosaic.ValueIdx
open Facts₀ Facts

variable {F : FTy → Type} [FloatOps F]

/-! ## Windows -/

theorem keys_inb {o : ℕ} (h : o + 256 ≤ 16384) : ∀ a, (![0, o, 0] : Fin 3 → ℕ) a + S1x256x128.size a ≤ S1x16384x128.size a := fun a => by
  fin_cases a
  · show 0 + 1 ≤ 1; omega
  · exact h
  · show 0 + 128 ≤ 128; omega

theorem vl_inb {o w : ℕ} (h : o + w ≤ 16384) : ∀ a, (![0, 0, o] : Fin 3 → ℕ) a + (⟨3, ![1, 128, w]⟩ : Shape).size a ≤ S1x144x16384.size a := fun a => by
  fin_cases a
  · show 0 + 1 ≤ 1; omega
  · show 0 + 128 ≤ 144; omega
  · exact h

theorem vh_inb {o w : ℕ} (h : o + w ≤ 16384) : ∀ a, (![0, 0, o] : Fin 3 → ℕ) a + (⟨3, ![1, 144, w]⟩ : Shape).size a ≤ S1x144x16384.size a := fun a => by
  fin_cases a
  · show 0 + 1 ≤ 1; omega
  · show 0 + 144 ≤ 144; omega
  · exact h

/-- The 256 keys from row `o` on. -/
def keysAt (kk : Vec F S1x16384x128 .bf16) (o : ℕ) : FVec F S1x256x128 .bf16 :=
  if h : o + 256 ≤ 16384 then VecWindow.window kk ![0, o, 0] S1x256x128.size (keys_inb h) else constant S1x256x128 .bf16 0#16

/-- The first 128 rows of the values of `w` keys from column `o` on. -/
def vlAt (vv : Vec F S1x144x16384 .bf16) (w o : ℕ) : FVec F ⟨3, ![1, 128, w]⟩ .bf16 :=
  if h : o + w ≤ 16384 then VecWindow.window vv ![0, 0, o] (⟨3, ![1, 128, w]⟩ : Shape).size (vl_inb h) else constant ⟨3, ![1, 128, w]⟩ .bf16 0#16

/-- All 144 rows of the values of `w` keys from column `o` on. -/
def vhAt (vv : Vec F S1x144x16384 .bf16) (w o : ℕ) : FVec F ⟨3, ![1, 144, w]⟩ .bf16 :=
  if h : o + w ≤ 16384 then VecWindow.window vv ![0, 0, o] (⟨3, ![1, 144, w]⟩ : Shape).size (vh_inb h) else constant ⟨3, ![1, 144, w]⟩ .bf16 0#16

theorem window_keys (kk : Vec F S1x16384x128 .bf16) {off : Fin 3 → ℕ} {o : ℕ} (h : off = ![0, o, 0])
    (inb : ∀ a, off a + S1x256x128.size a ≤ S1x16384x128.size a) : VecWindow.window kk off S1x256x128.size inb = keysAt kk o := by
  subst h
  have h : o + 256 ≤ 16384 := inb 1
  rw [keysAt, dif_pos h]

theorem window_vl (vv : Vec F S1x144x16384 .bf16) {w : ℕ} {off : Fin 3 → ℕ} {o : ℕ} (h : off = ![0, 0, o])
    (inb : ∀ a, off a + (⟨3, ![1, 128, w]⟩ : Shape).size a ≤ S1x144x16384.size a) :
    VecWindow.window vv off (⟨3, ![1, 128, w]⟩ : Shape).size inb = vlAt vv w o := by
  subst h
  have h : o + w ≤ 16384 := inb 2
  rw [vlAt, dif_pos h]

theorem window_vh (vv : Vec F S1x144x16384 .bf16) {w : ℕ} {off : Fin 3 → ℕ} {o : ℕ} (h : off = ![0, 0, o])
    (inb : ∀ a, off a + (⟨3, ![1, 144, w]⟩ : Shape).size a ≤ S1x144x16384.size a) :
    VecWindow.window vv off (⟨3, ![1, 144, w]⟩ : Shape).size inb = vhAt vv w o := by
  subst h
  have h : o + w ≤ 16384 := inb 2
  rw [vhAt, dif_pos h]

/-! ## Stacks -/

/-- Up to four blocks of 256 rows on top of one another. -/
def stk {α : Type} (w : ℕ) (b : Fin 4 → S256x256.Idx → α) : (⟨2, ![w, 256]⟩ : Shape).Idx → α :=
  fun y => b ⟨(y 0).val / 256 % 4, Nat.mod_lt _ (by decide)⟩ (ix2 (⟨(y 0).val % 256, Nat.mod_lt _ (by decide)⟩ : Fin 256) (y 1 : Fin 256))

/-- A block put over one of the four places. -/
theorem put_row {α : Type} (X : S1024x256.Idx → α) (b : S256x256.Idx → α) (ro : ℕ) (r : Fin 4) (h : ro = 256 * r.val) (y : S1024x256.Idx) :
    VecWindow.put X ![ro, 0] S256x256.size b y
      = if (y 0).val / 256 = r.val then b (ix2 (⟨(y 0).val % 256, Nat.mod_lt _ (by decide)⟩ : Fin 256) (y 1 : Fin 256)) else X y := by
  subst h
  have h1 : (y 1).val < 256 := (y 1).isLt
  unfold VecWindow.put
  by_cases hy : (y 0).val / 256 = r.val
  · rw [if_pos hy, dif_pos (fun a => by
      fin_cases a
      · show 256 * r.val ≤ (y 0).val ∧ (y 0).val < 256 * r.val + 256
        omega
      · show 0 ≤ (y 1).val ∧ (y 1).val < 0 + 256
        omega)]
    refine congrArg b (funext fun a => Fin.ext ?_)
    fin_cases a
    · show (y 0).val - 256 * r.val = (y 0).val % 256
      omega
    · show (y 1).val - 0 = (y 1).val
      omega
  · rw [if_neg hy, dif_neg (fun hc => hy (by
      have := hc 0
      change 256 * r.val ≤ (y 0).val ∧ (y 0).val < 256 * r.val + 256 at this
      omega))]

section Windows
variable {α : Type} (X : S1024x256.Idx → α) (b : Fin 4 → S256x256.Idx → α)

theorem window_put4 (inb : ∀ a, (![0, 0] : Fin 2 → ℕ) a + (⟨2, ![1024, 256]⟩ : Shape).size a ≤ S1024x256.size a) :
    VecWindow.window (VecWindow.put (VecWindow.put (VecWindow.put (VecWindow.put X ![0, 0] S256x256.size (b 0)) ![256, 0] S256x256.size (b 1))
      ![512, 0] S256x256.size (b 2)) ![768, 0] S256x256.size (b 3)) ![0, 0] (⟨2, ![1024, 256]⟩ : Shape).size inb = stk 1024 b := by
  funext z
  unfold VecWindow.window stk
  have hz : (z 0).val < 1024 := (z 0).isLt
  have e0 : ((Rect.unit (s := S1024x256) ![0, 0] (⟨2, ![1024, 256]⟩ : Shape).size inb).emb z 0).val = (z 0).val := by
    show 0 + 1 * (z 0).val = _; omega
  have e1 : ((Rect.unit (s := S1024x256) ![0, 0] (⟨2, ![1024, 256]⟩ : Shape).size inb).emb z 1 : Fin 256) = (z 1 : Fin 256) := Fin.ext (by
    show 0 + 1 * (z 1).val = _; omega)
  rw [put_row _ _ 768 3 rfl, put_row _ _ 512 2 rfl, put_row _ _ 256 1 rfl, put_row _ _ 0 0 rfl]
  simp only [e0, e1]
  have hc : (z 0).val / 256 = 0 ∨ (z 0).val / 256 = 1 ∨ (z 0).val / 256 = 2 ∨ (z 0).val / 256 = 3 := by omega
  rcases hc with h | h | h | h <;> simp [h]

theorem window_put3 (inb : ∀ a, (![0, 0] : Fin 2 → ℕ) a + (⟨2, ![768, 256]⟩ : Shape).size a ≤ S1024x256.size a) :
    VecWindow.window (VecWindow.put (VecWindow.put (VecWindow.put X ![0, 0] S256x256.size (b 0)) ![256, 0] S256x256.size (b 1))
      ![512, 0] S256x256.size (b 2)) ![0, 0] (⟨2, ![768, 256]⟩ : Shape).size inb = stk 768 b := by
  funext z
  unfold VecWindow.window stk
  have hz : (z 0).val < 768 := (z 0).isLt
  have e0 : ((Rect.unit (s := S1024x256) ![0, 0] (⟨2, ![768, 256]⟩ : Shape).size inb).emb z 0).val = (z 0).val := by
    show 0 + 1 * (z 0).val = _; omega
  have e1 : ((Rect.unit (s := S1024x256) ![0, 0] (⟨2, ![768, 256]⟩ : Shape).size inb).emb z 1 : Fin 256) = (z 1 : Fin 256) := Fin.ext (by
    show 0 + 1 * (z 1).val = _; omega)
  rw [put_row _ _ 512 2 rfl, put_row _ _ 256 1 rfl, put_row _ _ 0 0 rfl]
  simp only [e0, e1]
  have hc : (z 0).val / 256 = 0 ∨ (z 0).val / 256 = 1 ∨ (z 0).val / 256 = 2 := by omega
  rcases hc with h | h | h <;> simp [h]

theorem window_put2 (inb : ∀ a, (![0, 0] : Fin 2 → ℕ) a + (⟨2, ![512, 256]⟩ : Shape).size a ≤ S1024x256.size a) :
    VecWindow.window (VecWindow.put (VecWindow.put X ![0, 0] S256x256.size (b 0)) ![256, 0] S256x256.size (b 1))
      ![0, 0] (⟨2, ![512, 256]⟩ : Shape).size inb = stk 512 b := by
  funext z
  unfold VecWindow.window stk
  have hz : (z 0).val < 512 := (z 0).isLt
  have e0 : ((Rect.unit (s := S1024x256) ![0, 0] (⟨2, ![512, 256]⟩ : Shape).size inb).emb z 0).val = (z 0).val := by
    show 0 + 1 * (z 0).val = _; omega
  have e1 : ((Rect.unit (s := S1024x256) ![0, 0] (⟨2, ![512, 256]⟩ : Shape).size inb).emb z 1 : Fin 256) = (z 1 : Fin 256) := Fin.ext (by
    show 0 + 1 * (z 1).val = _; omega)
  rw [put_row _ _ 256 1 rfl, put_row _ _ 0 0 rfl]
  simp only [e0, e1]
  have hc : (z 0).val / 256 = 0 ∨ (z 0).val / 256 = 1 := by omega
  rcases hc with h | h <;> simp [h]

theorem window_put1 (inb : ∀ a, (![0, 0] : Fin 2 → ℕ) a + (⟨2, ![256, 256]⟩ : Shape).size a ≤ S1024x256.size a) :
    VecWindow.window (VecWindow.put X ![0, 0] S256x256.size (b 0)) ![0, 0] (⟨2, ![256, 256]⟩ : Shape).size inb = stk 256 b := by
  funext z
  unfold VecWindow.window stk
  have hz : (z 0).val < 256 := (z 0).isLt
  have e0 : ((Rect.unit (s := S1024x256) ![0, 0] (⟨2, ![256, 256]⟩ : Shape).size inb).emb z 0).val = (z 0).val := by
    show 0 + 1 * (z 0).val = _; omega
  have e1 : ((Rect.unit (s := S1024x256) ![0, 0] (⟨2, ![256, 256]⟩ : Shape).size inb).emb z 1 : Fin 256) = (z 1 : Fin 256) := Fin.ext (by
    show 0 + 1 * (z 1).val = _; omega)
  rw [put_row _ _ 0 0 rfl]
  simp only [e0, e1]
  have hc : (z 0).val / 256 = 0 := by omega
  simp [hc]

theorem put4_eq : VecWindow.put (VecWindow.put (VecWindow.put (VecWindow.put X ![0, 0] S256x256.size (b 0)) ![256, 0] S256x256.size (b 1))
      ![512, 0] S256x256.size (b 2)) ![768, 0] S256x256.size (b 3) = stk 1024 b := by
  rw [← window_put4 X b inb_S1024x256_S1024x256_0_0]
  funext z
  unfold VecWindow.window
  rw [Rect.emb_unit_full]

end Windows

/-- The eight slots of the accumulator buffer. -/
def accOf {α : Type} (A : Fin 8 → S1x272x256.Idx → α) : S8x272x256.Idx → α :=
  fun y => A (y 0 : Fin 8) (ix3 (0 : Fin 1) (y 1 : Fin 272) (y 2 : Fin 256))

theorem acc_inb (n : Fin 8) : ∀ a, (![n.val, 0, 0] : Fin 3 → ℕ) a + S1x272x256.size a ≤ S8x272x256.size a := fun a => by
  have := n.isLt
  fin_cases a
  · show n.val + 1 ≤ 8; omega
  · show 0 + 272 ≤ 272; omega
  · show 0 + 256 ≤ 256; omega

theorem window_accOf {α : Type} (A : Fin 8 → S1x272x256.Idx → α) (n : Fin 8) {off : Fin 3 → ℕ} (h : off = ![n.val, 0, 0])
    (inb : ∀ a, off a + S1x272x256.size a ≤ S8x272x256.size a) :
    VecWindow.window (accOf A) off S1x272x256.size inb = A n := by
  subst h
  funext z
  unfold VecWindow.window accOf
  have hz : (z 0).val < 1 := (z 0).isLt
  have e : ((Rect.unit (s := S8x272x256) ![n.val, 0, 0] S1x272x256.size inb).emb z 0 : Fin 8) = n := Fin.ext (by
    show n.val + 1 * (z 0).val = n.val; omega)
  rw [e]
  refine congrArg (A n) (funext fun a => Fin.ext ?_)
  fin_cases a
  · show 0 = (z 0).val; omega
  · show 0 + 1 * (z 1).val = (z 1).val; omega
  · show 0 + 1 * (z 2).val = (z 2).val; omega

theorem put_accOf {α : Type} (A : Fin 8 → S1x272x256.Idx → α) (n : Fin 8) (v : S1x272x256.Idx → α) {off : Fin 3 → ℕ} (h : off = ![n.val, 0, 0]) :
    VecWindow.put (accOf A) off S1x272x256.size v = accOf (Function.update A n v) := by
  subst h
  funext y
  have h1 : (y 1).val < 272 := (y 1).isLt
  have h2 : (y 2).val < 256 := (y 2).isLt
  unfold VecWindow.put accOf
  by_cases hy : (y 0 : Fin 8) = n
  · have hv : (y 0).val = n.val := congrArg Fin.val hy
    have hu : Function.update A n v (y 0 : Fin 8) = v := (congrArg (Function.update A n v) hy).trans (Function.update_self n v A)
    refine (dif_pos (show ∀ a, (![n.val, 0, 0] : Fin 3 → ℕ) a ≤ (y a).val ∧ (y a).val < (![n.val, 0, 0] : Fin 3 → ℕ) a + S1x272x256.size a from fun a => by
      fin_cases a
      · show n.val ≤ (y 0).val ∧ (y 0).val < n.val + 1
        omega
      · show 0 ≤ (y 1).val ∧ (y 1).val < 0 + 272
        omega
      · show 0 ≤ (y 2).val ∧ (y 2).val < 0 + 256
        omega)).trans ?_
    refine Eq.trans (congrArg v (funext fun a => Fin.ext ?_)) (congrFun hu _).symm
    fin_cases a
    · show (y 0).val - n.val = 0
      omega
    · show (y 1).val - 0 = (y 1).val
      omega
    · show (y 2).val - 0 = (y 2).val
      omega
  · have hu : Function.update A n v (y 0 : Fin 8) = A (y 0 : Fin 8) := Function.update_of_ne hy v A
    refine (dif_neg (fun hc => hy (Fin.ext (by
      have := hc 0
      change n.val ≤ (y 0).val ∧ (y 0).val < n.val + 1 at this
      show (y 0).val = n.val
      omega)))).trans ?_
    exact (congrFun hu _).symm

theorem exists_accOf {α : Type} (X : S8x272x256.Idx → α) : ∃ A, X = accOf A := by
  refine ⟨fun n z => X (ix3 n (z 1 : Fin 272) (z 2 : Fin 256)), funext fun y => congrArg X (funext fun a => Fin.ext ?_)⟩
  fin_cases a <;> rfl

/-! ## The chains -/

/-- The arrays a grid point reads: its queries, keys, values of the two halves, the difference's four vectors, the norm's weights. -/
structure Ins (F : FTy → Type) where
  (qa qb : Vec F S1x128x1024 .bf16)
  (ka kb : Vec F S1x16384x128 .bf16)
  (vl vh : Vec F S1x144x16384 .bf16)
  (la lb lc ld : Vec F S1x128 .f32)
  (g : Vec F S256x1 .f32)

section Chains
variable (I : Ins F) (c : ℕ)

/-- The queries of chain `n`: the blocks from the last to the first, the two halves in turn. -/
def qOf : Fin 8 → FVec F S128x256 .bf16
  | 0 => castQ (VecWindow.window I.qa ![0, 0, 768] S1x128x256.size inb_S1x128x1024_S1x128x256_0_0_768)
  | 1 => castQ (VecWindow.window I.qb ![0, 0, 768] S1x128x256.size inb_S1x128x1024_S1x128x256_0_0_768)
  | 2 => castQ (VecWindow.window I.qa ![0, 0, 512] S1x128x256.size inb_S1x128x1024_S1x128x256_0_0_512)
  | 3 => castQ (VecWindow.window I.qb ![0, 0, 512] S1x128x256.size inb_S1x128x1024_S1x128x256_0_0_512)
  | 4 => castQ (VecWindow.window I.qa ![0, 0, 256] S1x128x256.size inb_S1x128x1024_S1x128x256_0_0_256)
  | 5 => castQ (VecWindow.window I.qb ![0, 0, 256] S1x128x256.size inb_S1x128x1024_S1x128x256_0_0_256)
  | 6 => castQ (VecWindow.window I.qa ![0, 0, 0] S1x128x256.size inb_S1x128x1024_S1x128x256_0_0_0)
  | 7 => castQ (VecWindow.window I.qb ![0, 0, 0] S1x128x256.size inb_S1x128x1024_S1x128x256_0_0_0)

/-- The keys of chain `n`. -/
def kOf : Fin 8 → Vec F S1x16384x128 .bf16
  | 0 => I.ka | 1 => I.kb | 2 => I.ka | 3 => I.kb | 4 => I.ka | 5 => I.kb | 6 => I.ka | 7 => I.kb

/-- The scores of chain `n` against block `r` of chunk `t`. -/
def blk (n : Fin 8) (t : ℕ) (r : Fin 4) : FVec F S256x256 .f32 := scoreV (keysAt (kOf I n) (1024 * t + 256 * r.val)) (qOf I n)

/-- The maxima of four score blocks. -/
def max4 (b : Fin 4 → FVec F S256x256 .f32) : FVec F S1x256 .f32 :=
  finMax (maximumf (maximumf (maximumf (blkMax (b 0)) (blkMax (b 1))) (blkMax (b 2))) (blkMax (b 3)))
/-- The maxima of three. -/
def max3 (b : Fin 4 → FVec F S256x256 .f32) : FVec F S1x256 .f32 :=
  finMax (maximumf (maximumf (blkMax (b 0)) (blkMax (b 1))) (blkMax (b 2)))
/-- The maxima of two. -/
def max2 (b : Fin 4 → FVec F S256x256 .f32) : FVec F S1x256 .f32 := finMax (maximumf (blkMax (b 0)) (blkMax (b 1)))
/-- The maxima of one. -/
def max1 (b : Fin 4 → FVec F S256x256 .f32) : FVec F S1x256 .f32 := finMax (blkMax (b 0))

/-- Four score blocks, block `l` masked. -/
def maskAt (l : Fin 4) (b : Fin 4 → FVec F S256x256 .f32) (r : Fin 4) : FVec F S256x256 .f32 := if r = l then masked (b r) else b r

/-- A chain's state: its maxima and its accumulator. -/
structure Ch (F : FTy → Type) [FloatOps F] where
  m : FVec F S1x256 .f32
  a : FVec F S1x272x256 .f32

/-- A chain's state after `w` keys of its own chunk: from its score blocks and their maxima. -/
def ch0 {w : ℕ} (W : Wid w) (mx : (Fin 4 → FVec F S256x256 .f32) → FVec F S1x256 .f32) (l : Fin 4) (n : Fin 8) : Ch F where
  m := mx (maskAt l (blk I n c))
  a := accInit W (mx (maskAt l (blk I n c))) (stk w (maskAt l (blk I n c))) (vlAt I.vl w (1024 * c)) (vhAt I.vh w (1024 * c))

/-- A chain's state after its own chunk. -/
def chInit : Fin 8 → Ch F
  | 0 => ch0 I c wid1024 max4 3 0 | 1 => ch0 I c wid1024 max4 3 1
  | 2 => ch0 I c wid768 max3 2 2 | 3 => ch0 I c wid768 max3 2 3
  | 4 => ch0 I c wid512 max2 1 4 | 5 => ch0 I c wid512 max2 1 5
  | 6 => ch0 I c wid256 max1 0 6 | 7 => ch0 I c wid256 max1 0 7

/-- A chain's state after chunk `t`. -/
def chNext (n : Fin 8) (t : ℕ) (s : Ch F) : Ch F where
  m := maximumf s.m (max4 (blk I n t))
  a := accNext s.m (max4 (blk I n t)) (stk 1024 (blk I n t)) (vlAt I.vl 1024 (1024 * t)) (vhAt I.vh 1024 (1024 * t)) s.a

/-- A chain's state after its own chunk and the chunks before `t`. -/
def chain (n : Fin 8) : ℕ → Ch F
  | 0 => chInit I c n
  | t + 1 => chNext I n t (chain n t)

/-- The output block of two chains. -/
def outB (n n' : Fin 8) : FVec F S256x256 .bf16 :=
  outV (diffV (lamV I.la I.lb I.lc I.ld) (chain I c n c).a (chain I c n' c).a) I.g

/-- What a grid point of chunk `c` writes. -/
def outF : Vec F S1024x256 .bf16 := stk 1024 fun r => match r with
  | 0 => outB I c 6 7 | 1 => outB I c 4 5 | 2 => outB I c 2 3 | 3 => outB I c 0 1

end Chains

end Cert.KernelIdeal.Hand
-- ==== Proof.Wp.lean ====
/- The rules of the short program's pieces: what each reads, what it leaves in which buffer. -/
module

public import proofs.«01_k».proof.Proof.Pure
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.ReshapeSlab
public import Idealize.ShloMosaic.Lib.Ring
public import Idealize.ShloMosaic.Lib.Pipeline.Value

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- A program's weakest precondition on core `d`. -/
abbrev WP (d : Dev nD) {α : Type} (p : Pg F α) (Q : α → sProp 𝕄) : sProp 𝕄 :=
  wp frame (wpE (defs₀ (F := F)) Variants.none (d : Thread nD τ) none) Set.univ p Q

/-- A buffer in fast memory held whole at contents `X`. -/
abbrev own (d : Dev nD) {s : Shape} {e : EltTy} (M : Memref sig .tc .vmem s e) (X : Vec F s e) : sProp 𝕄 := owns (d : Thread nD τ) M fullShare X

section Base
variable (d : Dev nD) {s : Shape} {e : EltTy} (M : Memref sig .tc .vmem s e) (X : Vec F s e) {α : Type} (Q : α → sProp (MT nD τ sig Unit (Elt F) ℕ (UR sig nD τ) ℕ))

theorem rule_load {off size : Fin s.rank → ℕ} (inb : ∀ a, off a + size a ≤ s.size a) (hl : M.view.LoadsAt (Rect.unit off size inb).toLoadRect)
    (k : ((Rect.unit off size inb).shape.Idx → Elt F e) → Pg F α) :
    own d M X ⊢ iprop((own d M X -∗ WP d (k (VecWindow.window X off size inb)) Q)
      -∗ WP d (.op (.load M (Rect.unit off size inb).toLoadRect hl) k) Q) := by
  have h := wp_load (defs := defs₀ (F := F)) Variants.none (d : Thread nD τ) none Set.univ (Γ := ∅) (m := M) (Q := Q) (hl := hl) (k := k) (q := fullShare)
    (f := M.view.rep X) (View.setOn_subset_set M.view _)
  rw [View.readAt_rep_unit M.view X inb rfl inb] at h
  unfold own
  rw [owns_eq_rep]
  exact h

theorem rule_store {off size : Fin s.rank → ℕ} (inb : ∀ a, off a + size a ≤ s.size a) (w : (Rect.unit off size inb).shape.Idx → Elt F e)
    (hx : (M.access (Rect.unit off size inb)).Stores Finset.univ)
    (hm : (Finset.univ : Finset (Rect.unit off size inb).shape.Idx) = Finset.univ ∨ ∀ a, (Rect.unit off size inb).stride a = 1)
    (k : PUnit → Pg F α) :
    own d M X ⊢ iprop((own d M (VecWindow.put X off size w) -∗ WP d (k ⟨⟩) Q)
      -∗ WP d (.op (.store M (Rect.unit off size inb) w Finset.univ hx hm) k) Q) := by
  have h := wp_store_writes₀ (defs := defs₀ (F := F)) Variants.none (d : Thread nD τ) none Set.univ (m := M) (Q := Q) (w := w) (hx := hx) (hm := hm) (k := k)
    (f := M.view.rep X) (S := M.view.set) ((View.set_slice_subset_setOn M.view _).trans (View.setOn_subset_set M.view _))
  unfold own
  rw [owns_eq_rep, owns_eq_rep]
  refine h.trans ?_
  iintro H K
  iapply H
  iintro H
  iapply K
  iapply (pointsTo_rep_of_read (d : Thread nD τ) M _ fullShare _ (View.read_writes_rep_unit M.view X inb w rfl))
  iexact H

end Base

section Pieces
variable (d : Dev nD) {α : Type} (Q : α → sProp (MT nD τ sig Unit (Elt F) ℕ (UR sig nD τ) ℕ))

theorem rule_scoreStep (K : Memref sig .tc .vmem S1x16384x128 .bf16) (kk : Vec F S1x16384x128 .bf16) {off : Fin 3 → ℕ} (o : ℕ) (ho : off = ![0, o, 0])
    (hk : ∀ a, off a + S1x256x128.size a ≤ S1x16384x128.size a)
    (S : Memref sig .tc .vmem S1024x256 .f32) (X : Vec F S1024x256 .f32) (ro : Fin 2 → ℕ) (hr : ∀ a, ro a + S256x256.size a ≤ S1024x256.size a)
    (q : FVec F S128x256 .bf16) (post : FVec F S256x256 .f32 → FVec F S256x256 .f32) (k : FVec F S256x256 .f32 → Pg F α) :
    own d K kk ⊢ iprop(own d S X -∗ (own d K kk -∗ own d S (VecWindow.put X ro S256x256.size (post (scoreV (keysAt kk o) q)))
        -∗ WP d (k (post (scoreV (keysAt kk o) q))) Q)
      -∗ WP d (scoreStep K off hk S ro hr q post k) Q) := by
  unfold scoreStep
  iintro HK HS Hk
  iapply (rule_load d K kk Q) $$ HK
  iintro HK
  iapply (rule_load d S X Q) $$ HS
  iintro HS
  iapply (rule_store d S X Q) $$ HS
  iintro HS
  rw [window_keys kk ho hk, shapeCast_self]
  iapply Hk $$ HK HS

/-- A score buffer whose first `w` rows hold `f`. -/
def hasS (S : Memref sig .tc .vmem S1024x256 .f32) (w : ℕ) (f : Vec F ⟨2, ![w, 256]⟩ .f32) : sProp 𝕄 :=
  iprop(∃ X : Vec F S1024x256 .f32, ⌜∀ inb, VecWindow.window X ![0, 0] (⟨2, ![w, 256]⟩ : Shape).size inb = f⌝ ∗ own d S X)

/-- A score buffer at any contents. -/
def anyS (S : Memref sig .tc .vmem S1024x256 .f32) : sProp 𝕄 := iprop(∃ X : Vec F S1024x256 .f32, own d S X)

theorem any_of_has (S : Memref sig .tc .vmem S1024x256 .f32) (w : ℕ) (f : Vec F ⟨2, ![w, 256]⟩ .f32) : hasS d S w f ⊢ anyS d S := by
  unfold hasS anyS
  iintro ⟨%X, %hX, H⟩
  iexists X
  iexact H

section Scores
variable (I : Ins F) (n : Fin 8) (t : ℕ) (K : Memref sig .tc .vmem S1x16384x128 .bf16) (kk : Vec F S1x16384x128 .bf16) {koff : Fin 4 → Fin 3 → ℕ} (hkk : kOf I n = kk)
  (ho : ∀ r, koff r = ![0, 1024 * t + 256 * r.val, 0])
  (hk : ∀ r a, koff r a + S1x256x128.size a ≤ S1x16384x128.size a) (S : Memref sig .tc .vmem S1024x256 .f32) (q : FVec F S128x256 .bf16) (hq : qOf I n = q)
  (k : FVec F S1x256 .f32 → Pg F α)

include ho hkk hq

theorem rule_scores4 :
    own d K kk ⊢ iprop(anyS d S -∗ (own d K kk -∗ hasS d S 1024 (stk 1024 (blk I n t)) -∗ WP d (k (max4 (blk I n t))) Q)
      -∗ WP d (scores4 K koff hk S q (fun s => s) k) Q) := by
  subst hkk hq
  unfold scores4 anyS
  iintro HK ⟨%X, HS⟩ Hk
  iapply (rule_scoreStep d Q K (kOf I n) (1024 * t + 256 * (0 : Fin 4).val) (ho 0)) $$ HK HS
  iintro HK HS
  iapply (rule_scoreStep d Q K (kOf I n) (1024 * t + 256 * (1 : Fin 4).val) (ho 1)) $$ HK HS
  iintro HK HS
  iapply (rule_scoreStep d Q K (kOf I n) (1024 * t + 256 * (2 : Fin 4).val) (ho 2)) $$ HK HS
  iintro HK HS
  iapply (rule_scoreStep d Q K (kOf I n) (1024 * t + 256 * (3 : Fin 4).val) (ho 3)) $$ HK HS
  iintro HK HS
  iapply Hk $$ HK
  unfold hasS
  iexists _
  isplitr [HS]
  swap
  · iexact HS
  ipureintro
  exact fun inb => window_put4 X (blk I n t) inb

theorem rule_scores4m :
    own d K kk ⊢ iprop(anyS d S -∗ (own d K kk -∗ hasS d S 1024 (stk 1024 (maskAt 3 (blk I n t))) -∗ WP d (k (max4 (maskAt 3 (blk I n t)))) Q)
      -∗ WP d (scores4 K koff hk S q masked k) Q) := by
  subst hkk hq
  unfold scores4 anyS
  iintro HK ⟨%X, HS⟩ Hk
  iapply (rule_scoreStep d Q K (kOf I n) (1024 * t + 256 * (0 : Fin 4).val) (ho 0)) $$ HK HS
  iintro HK HS
  iapply (rule_scoreStep d Q K (kOf I n) (1024 * t + 256 * (1 : Fin 4).val) (ho 1)) $$ HK HS
  iintro HK HS
  iapply (rule_scoreStep d Q K (kOf I n) (1024 * t + 256 * (2 : Fin 4).val) (ho 2)) $$ HK HS
  iintro HK HS
  iapply (rule_scoreStep d Q K (kOf I n) (1024 * t + 256 * (3 : Fin 4).val) (ho 3)) $$ HK HS
  iintro HK HS
  iapply Hk $$ HK
  unfold hasS
  iexists _
  isplitr [HS]
  swap
  · iexact HS
  ipureintro
  exact fun inb => window_put4 X (maskAt 3 (blk I n t)) inb

theorem rule_scores3m :
    own d K kk ⊢ iprop(anyS d S -∗ (own d K kk -∗ hasS d S 768 (stk 768 (maskAt 2 (blk I n t))) -∗ WP d (k (max3 (maskAt 2 (blk I n t)))) Q)
      -∗ WP d (scores3 K koff hk S q masked k) Q) := by
  subst hkk hq
  unfold scores3 anyS
  iintro HK ⟨%X, HS⟩ Hk
  iapply (rule_scoreStep d Q K (kOf I n) (1024 * t + 256 * (0 : Fin 4).val) (ho 0)) $$ HK HS
  iintro HK HS
  iapply (rule_scoreStep d Q K (kOf I n) (1024 * t + 256 * (1 : Fin 4).val) (ho 1)) $$ HK HS
  iintro HK HS
  iapply (rule_scoreStep d Q K (kOf I n) (1024 * t + 256 * (2 : Fin 4).val) (ho 2)) $$ HK HS
  iintro HK HS
  iapply Hk $$ HK
  unfold hasS
  iexists _
  isplitr [HS]
  swap
  · iexact HS
  ipureintro
  exact fun inb => window_put3 X (maskAt 2 (blk I n t)) inb

theorem rule_scores2m :
    own d K kk ⊢ iprop(anyS d S -∗ (own d K kk -∗ hasS d S 512 (stk 512 (maskAt 1 (blk I n t))) -∗ WP d (k (max2 (maskAt 1 (blk I n t)))) Q)
      -∗ WP d (scores2 K koff hk S q masked k) Q) := by
  subst hkk hq
  unfold scores2 anyS
  iintro HK ⟨%X, HS⟩ Hk
  iapply (rule_scoreStep d Q K (kOf I n) (1024 * t + 256 * (0 : Fin 4).val) (ho 0)) $$ HK HS
  iintro HK HS
  iapply (rule_scoreStep d Q K (kOf I n) (1024 * t + 256 * (1 : Fin 4).val) (ho 1)) $$ HK HS
  iintro HK HS
  iapply Hk $$ HK
  unfold hasS
  iexists _
  isplitr [HS]
  swap
  · iexact HS
  ipureintro
  exact fun inb => window_put2 X (maskAt 1 (blk I n t)) inb

theorem rule_scores1m :
    own d K kk ⊢ iprop(anyS d S -∗ (own d K kk -∗ hasS d S 256 (stk 256 (maskAt 0 (blk I n t))) -∗ WP d (k (max1 (maskAt 0 (blk I n t)))) Q)
      -∗ WP d (scores1 K koff hk S q masked k) Q) := by
  subst hkk hq
  unfold scores1 anyS
  iintro HK ⟨%X, HS⟩ Hk
  iapply (rule_scoreStep d Q K (kOf I n) (1024 * t + 256 * (0 : Fin 4).val) (ho 0)) $$ HK HS
  iintro HK HS
  iapply Hk $$ HK
  unfold hasS
  iexists _
  isplitr [HS]
  swap
  · iexact HS
  ipureintro
  exact fun inb => window_put1 X (maskAt 0 (blk I n t)) inb

end Scores

section Soft
variable (VL VH : Memref sig .tc .vmem S1x144x16384 .bf16) (ACC : Memref sig .tc .vmem S8x272x256 .f32) (SC : Memref sig .tc .vmem S1024x256 .f32)
  (vl vh : Vec F S1x144x16384 .bf16) (A : Fin 8 → Vec F S1x272x256 .f32) (n : Fin 8) (o : ℕ)

theorem rule_soft0 {w : ℕ} (W : Wid w) (f : Vec F ⟨2, ![w, 256]⟩ .f32)
    {oL : Fin 3 → ℕ} (hL : ∀ a, oL a + (⟨3, ![1, 128, w]⟩ : Shape).size a ≤ S1x144x16384.size a)
    {oH : Fin 3 → ℕ} (hH : ∀ a, oH a + (⟨3, ![1, 144, w]⟩ : Shape).size a ≤ S1x144x16384.size a)
    {ao : Fin 3 → ℕ} (ha : ∀ a, ao a + S1x272x256.size a ≤ S8x272x256.size a)
    (eL : oL = ![0, 0, o]) (eH : oH = ![0, 0, o]) (ea : ao = ![n.val, 0, 0])
    (m : FVec F S1x256 .f32) (k : Pg F α) :
    hasS d SC w f ⊢ iprop(own d VL vl -∗ own d VH vh -∗ own d ACC (accOf A)
      -∗ (anyS d SC -∗ own d VL vl -∗ own d VH vh -∗ own d ACC (accOf (Function.update A n (accInit W m f (vlAt vl w o) (vhAt vh w o)))) -∗ WP d k Q)
      -∗ WP d (soft0 VL VH ACC W SC oL hL oH hH ao ha m k) Q) := by
  unfold soft0 hasS anyS
  iintro ⟨%X, %hX, HS⟩ HL HH HA Hk
  iapply (rule_load d SC X Q) $$ HS
  iintro HS
  iapply (rule_load d VL vl Q) $$ HL
  iintro HL
  iapply (rule_load d VH vh Q) $$ HH
  iintro HH
  iapply (rule_load d ACC (accOf A) Q) $$ HA
  iintro HA
  iapply (rule_store d ACC (accOf A) Q) $$ HA
  iintro HA
  rw [hX, window_vl vl eL, window_vh vh eH, put_accOf A n _ ea]
  iapply Hk $$ [HS] HL HH HA
  iexists X
  iexact HS

theorem rule_softN (f : Vec F S1024x256 .f32)
    {oL : Fin 3 → ℕ} (hL : ∀ a, oL a + S1x128x1024.size a ≤ S1x144x16384.size a)
    {oH : Fin 3 → ℕ} (hH : ∀ a, oH a + S1x144x1024.size a ≤ S1x144x16384.size a)
    {ao : Fin 3 → ℕ} (ha : ∀ a, ao a + S1x272x256.size a ≤ S8x272x256.size a)
    (eL : oL = ![0, 0, o]) (eH : oH = ![0, 0, o]) (ea : ao = ![n.val, 0, 0])
    (m mc : FVec F S1x256 .f32) (k : Pg F α) :
    hasS d SC 1024 f ⊢ iprop(own d VL vl -∗ own d VH vh -∗ own d ACC (accOf A)
      -∗ (anyS d SC -∗ own d VL vl -∗ own d VH vh -∗ own d ACC (accOf (Function.update A n (accNext m mc f (vlAt vl 1024 o) (vhAt vh 1024 o) (A n)))) -∗ WP d k Q)
      -∗ WP d (softN VL VH ACC SC oL hL oH hH ao ha m mc k) Q) := by
  unfold softN hasS anyS
  iintro ⟨%X, %hX, HS⟩ HL HH HA Hk
  iapply (rule_load d SC X Q) $$ HS
  iintro HS
  iapply (rule_load d VL vl Q) $$ HL
  iintro HL
  iapply (rule_load d VH vh Q) $$ HH
  iintro HH
  iapply (rule_load d ACC (accOf A) Q) $$ HA
  iintro HA
  iapply (rule_load d ACC (accOf A) Q) $$ HA
  iintro HA
  iapply (rule_store d ACC (accOf A) Q) $$ HA
  iintro HA
  have e1 : VecWindow.window X ![0, 0] S1024x256.size inb_S1024x256_S1024x256_0_0 = f := hX _
  have e2 : VecWindow.window vl oL S1x128x1024.size hL = vlAt vl 1024 o := window_vl vl eL hL
  have e3 : VecWindow.window vh oH S1x144x1024.size hH = vhAt vh 1024 o := window_vh vh eH hH
  rw [e1, e2, e3, window_accOf A n ea, put_accOf A n _ ea]
  iapply Hk $$ [HS] HL HH HA
  iexists X
  iexact HS

end Soft

end Pieces

end Cert.KernelIdeal.Hand
-- ==== Proof.Offs.lean ====
/- The trip counts of the three loops and the places their rounds read, in closed form. -/
module

public import proofs.«01_k».proof.Proof.Prog
public import Idealize.ShloMosaic.Lib.Tactic

@[expose] public section

noncomputable section

namespace Cert.KernelIdeal.Hand

open Cert.KernelIdeal
open Idealize.ShloMosaic Idealize.SL.Sem
open Facts₀ Facts

/-- A grid point's chunk. -/
abbrev cOf (i : grid0.Coords) : ℕ := (i 2).val
theorem cOf_lt (i : grid0.Coords) : cOf i < 16 := (i 2).isLt

theorem trips1 (i : grid0.Coords) : (k0_t1_loop i).trips = cOf i / 4 := by
  have hi := cOf_lt i
  unfold cOf at *
  unfold k0_t1_loop
  generalize (i 2).val = n at hi ⊢
  interval_cases n <;> decide

theorem trips3 (i : grid0.Coords) : (k0_t3_loop i).trips = cOf i % 4 / 2 := by
  have hi := cOf_lt i
  unfold cOf at *
  unfold k0_t3_loop
  generalize (i 2).val = n at hi ⊢
  interval_cases n <;> decide

theorem trips5 (i : grid0.Coords) : (k0_t5_loop i).trips = cOf i % 2 := by
  have hi := cOf_lt i
  unfold cOf at *
  unfold k0_t5_loop
  generalize (i 2).val = n at hi ⊢
  interval_cases n <;> decide

/-! The own chunk. -/

theorem off1_eq (i : grid0.Coords) (r : Fin 4) : k0_off1 i (BitVec.ofNat 32 (256 * r.val)) = ![0, 1024 * cOf i + 256 * r.val, 0] := by
  have hi := cOf_lt i
  unfold k0_off1 cOf at *
  generalize (i 2).val = n at hi ⊢
  interval_cases n <;> fin_cases r <;> rfl

theorem off2_eq (i : grid0.Coords) : k0_off2 i = ![0, 0, 1024 * cOf i] := by
  have hi := cOf_lt i
  unfold k0_off2 cOf at *
  generalize (i 2).val = n at hi ⊢
  interval_cases n <;> rfl

/-! The loop of 4 rounds a trip. -/

theorem off10_eq (i : grid0.Coords) (k : Fin (k0_t1_loop i).trips) (u : Fin 4) (r : Fin 4) : k0_off10 i k (BitVec.ofNat 32 u.val) (BitVec.ofNat 32 (256 * r.val)) = ![0, 1024 * (4 * k.val + u.val) + 256 * r.val, 0] := by
  have hi := cOf_lt i
  have hk : k.val < cOf i / 4 := lt_of_lt_of_eq k.isLt (trips1 i)
  unfold k0_off10 cOf at *
  generalize k.val = m at hk ⊢
  generalize (i 2).val = n at hi hk ⊢
  have hm : m < 4 := by omega
  clear hk hi
  interval_cases m <;> fin_cases u <;> fin_cases r <;> rfl

theorem off11_eq (i : grid0.Coords) (k : Fin (k0_t1_loop i).trips) (u : Fin 4) : k0_off11 i k (BitVec.ofNat 32 u.val) = ![0, 0, 1024 * (4 * k.val + u.val)] := by
  have hi := cOf_lt i
  have hk : k.val < cOf i / 4 := lt_of_lt_of_eq k.isLt (trips1 i)
  unfold k0_off11 cOf at *
  generalize k.val = m at hk ⊢
  generalize (i 2).val = n at hi hk ⊢
  have hm : m < 4 := by omega
  clear hk hi
  interval_cases m <;> fin_cases u <;> rfl

theorem off13_eq (i : grid0.Coords) (k : Fin (k0_t1_loop i).trips) (u : Fin 4) (r : Fin 4) : k0_off13 i k (BitVec.ofNat 32 u.val) (BitVec.ofNat 32 (256 * r.val)) = ![0, 1024 * ((4 * k.val + u.val) + 1) + 256 * r.val, 0] := by
  have hi := cOf_lt i
  have hk : k.val < cOf i / 4 := lt_of_lt_of_eq k.isLt (trips1 i)
  unfold k0_off13 cOf at *
  generalize k.val = m at hk ⊢
  generalize (i 2).val = n at hi hk ⊢
  have hm : m < 4 := by omega
  clear hk hi
  interval_cases m <;> fin_cases u <;> fin_cases r <;> rfl

/-! The loop of 2 rounds a trip. -/

theorem off18_eq (i : grid0.Coords) (k : Fin (k0_t3_loop i).trips) (u : Fin 2) (r : Fin 4) : k0_off18 i k (BitVec.ofNat 32 u.val) (BitVec.ofNat 32 (256 * r.val)) = ![0, 1024 * ((cOf i / 4 * 4 + 2 * k.val) + u.val) + 256 * r.val, 0] := by
  have hi := cOf_lt i
  have hk : k.val < cOf i % 4 / 2 := lt_of_lt_of_eq k.isLt (trips3 i)
  unfold k0_off18 cOf at *
  generalize k.val = m at hk ⊢
  generalize (i 2).val = n at hi hk ⊢
  interval_cases n <;> simp only [Nat.reduceMod, Nat.reduceDiv, Nat.not_lt_zero] at hk <;> interval_cases m <;> fin_cases u <;> fin_cases r <;> rfl

theorem off19_eq (i : grid0.Coords) (k : Fin (k0_t3_loop i).trips) (u : Fin 2) : k0_off19 i k (BitVec.ofNat 32 u.val) = ![0, 0, 1024 * ((cOf i / 4 * 4 + 2 * k.val) + u.val)] := by
  have hi := cOf_lt i
  have hk : k.val < cOf i % 4 / 2 := lt_of_lt_of_eq k.isLt (trips3 i)
  unfold k0_off19 cOf at *
  generalize k.val = m at hk ⊢
  generalize (i 2).val = n at hi hk ⊢
  interval_cases n <;> simp only [Nat.reduceMod, Nat.reduceDiv, Nat.not_lt_zero] at hk <;> interval_cases m <;> fin_cases u <;> rfl

theorem off21_eq (i : grid0.Coords) (k : Fin (k0_t3_loop i).trips) (u : Fin 2) (r : Fin 4) : k0_off21 i k (BitVec.ofNat 32 u.val) (BitVec.ofNat 32 (256 * r.val)) = ![0, 1024 * (((cOf i / 4 * 4 + 2 * k.val) + u.val) + 1) + 256 * r.val, 0] := by
  have hi := cOf_lt i
  have hk : k.val < cOf i % 4 / 2 := lt_of_lt_of_eq k.isLt (trips3 i)
  unfold k0_off21 cOf at *
  generalize k.val = m at hk ⊢
  generalize (i 2).val = n at hi hk ⊢
  interval_cases n <;> simp only [Nat.reduceMod, Nat.reduceDiv, Nat.not_lt_zero] at hk <;> interval_cases m <;> fin_cases u <;> fin_cases r <;> rfl

/-! The loop of 1 round a trip. -/

theorem off26_eq (i : grid0.Coords) (k : Fin (k0_t5_loop i).trips) (r : Fin 4) : k0_off26 i k (BitVec.ofNat 32 (256 * r.val)) = ![0, 1024 * (cOf i / 2 * 2 + k.val) + 256 * r.val, 0] := by
  have hi := cOf_lt i
  have hk : k.val < cOf i % 2 := lt_of_lt_of_eq k.isLt (trips5 i)
  unfold k0_off26 cOf at *
  generalize k.val = m at hk ⊢
  generalize (i 2).val = n at hi hk ⊢
  interval_cases n <;> simp only [Nat.reduceMod, Nat.reduceDiv, Nat.not_lt_zero] at hk <;> interval_cases m <;> fin_cases r <;> rfl

theorem off27_eq (i : grid0.Coords) (k : Fin (k0_t5_loop i).trips) : k0_off27 i k = ![0, 0, 1024 * (cOf i / 2 * 2 + k.val)] := by
  have hi := cOf_lt i
  have hk : k.val < cOf i % 2 := lt_of_lt_of_eq k.isLt (trips5 i)
  unfold k0_off27 cOf at *
  generalize k.val = m at hk ⊢
  generalize (i 2).val = n at hi hk ⊢
  interval_cases n <;> simp only [Nat.reduceMod, Nat.reduceDiv, Nat.not_lt_zero] at hk <;> interval_cases m <;> rfl

theorem off29_eq (i : grid0.Coords) (k : Fin (k0_t5_loop i).trips) (r : Fin 4) : k0_off29 i k (BitVec.ofNat 32 (256 * r.val)) = ![0, 1024 * ((cOf i / 2 * 2 + k.val) + 1) + 256 * r.val, 0] := by
  have hi := cOf_lt i
  have hk : k.val < cOf i % 2 := lt_of_lt_of_eq k.isLt (trips5 i)
  unfold k0_off29 cOf at *
  generalize k.val = m at hk ⊢
  generalize (i 2).val = n at hi hk ⊢
  interval_cases n <;> simp only [Nat.reduceMod, Nat.reduceDiv, Nat.not_lt_zero] at hk <;> interval_cases m <;> fin_cases r <;> rfl

end Cert.KernelIdeal.Hand
-- ==== Proof.Body.lean ====
/- The rules of a round, of the own-chunk prologue, of the loops, of the closing blocks, and of the whole body. -/
module

public import proofs.«01_k».proof.Proof.Wp
public import proofs.«01_k».proof.Proof.Offs

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- What the loops carry before chunk `t`. -/
def stOf (I : Ins F) (c t : ℕ) : St F :=
  ((chain I c 0 t).m, (chain I c 1 t).m, (chain I c 2 t).m, (chain I c 3 t).m, (chain I c 4 t).m, (chain I c 5 t).m,
    (chain I c 6 t).m, (chain I c 7 t).m, max4 (blk I 0 t))

/-- The chains' queries. -/
def qsOf (I : Ins F) : Qs F := ⟨qOf I 0, qOf I 1, qOf I 2, qOf I 3, qOf I 4, qOf I 5, qOf I 6, qOf I 7⟩

/-- The accumulators while chunk `t` is worked off: those of the chains below `j` have it in. -/
def accSt (I : Ins F) (c t j : ℕ) : Fin 8 → Vec F S1x272x256 .f32 := fun n => (chain I c n (if n.val < j then t + 1 else t)).a

/-- The accumulators while the own chunk is worked off. -/
def accPr (I : Ins F) (c : ℕ) (A : Fin 8 → Vec F S1x272x256 .f32) (j : ℕ) : Fin 8 → Vec F S1x272x256 .f32 :=
  fun n => if n.val < j then (chInit I c n).a else A n

theorem accSt_step (I : Ins F) (c t : ℕ) (n : Fin 8) (v : Vec F S1x272x256 .f32) (hv : v = (chain I c n (t + 1)).a) :
    Function.update (accSt I c t n.val) n v = accSt I c t (n.val + 1) := by
  subst hv
  funext x
  by_cases h : x = n
  · subst h; simp [accSt]
  · have : x.val ≠ n.val := fun e => h (Fin.ext e)
    rw [Function.update_of_ne h]
    by_cases hl : x.val < n.val
    · simp [accSt, hl, Nat.lt_succ_of_lt hl]
    · have hl' : ¬ x.val < n.val + 1 := by omega
      simp [accSt, hl, hl']

theorem accPr_step (I : Ins F) (c : ℕ) (A : Fin 8 → Vec F S1x272x256 .f32) (n : Fin 8) (v : Vec F S1x272x256 .f32) (hv : v = (chInit I c n).a) :
    Function.update (accPr I c A n.val) n v = accPr I c A (n.val + 1) := by
  subst hv
  funext x
  by_cases h : x = n
  · subst h; simp [accPr]
  · have : x.val ≠ n.val := fun e => h (Fin.ext e)
    rw [Function.update_of_ne h]
    by_cases hl : x.val < n.val
    · simp [accPr, hl, Nat.lt_succ_of_lt hl]
    · have hl' : ¬ x.val < n.val + 1 := by omega
      simp [accPr, hl, hl']

theorem accSt_zero (I : Ins F) (c t : ℕ) : accSt I c t 0 = fun n => (chain I c n t).a := by funext n; simp [accSt]
theorem accSt_all (I : Ins F) (c t : ℕ) : accSt I c t 8 = fun n => (chain I c n (t + 1)).a := by
  funext n; have := n.isLt; simp [accSt, this]
theorem accPr_zero (I : Ins F) (c : ℕ) (A : Fin 8 → Vec F S1x272x256 .f32) : accPr I c A 0 = A := by funext n; simp [accPr]
theorem accPr_all (I : Ins F) (c : ℕ) (A : Fin 8 → Vec F S1x272x256 .f32) : accPr I c A 8 = fun n => (chain I c n 0).a := by
  funext n; have := n.isLt; simp only [accPr, this, if_true]; rfl

section Rules
variable (d : Dev nD) {α : Type} (Q : α → sProp (MT nD τ sig Unit (Elt F) ℕ (UR sig nD τ) ℕ)) (B : Bufs) (I : Ins F) (c : ℕ)

/-- A later step of chain `n`, its accumulator among the others. -/
theorem rule_stepN (t : ℕ) (n : Fin 8) (j j' : ℕ) (hj : n.val = j) (hj' : j + 1 = j')
    (VL VH : Memref sig .tc .vmem S1x144x16384 .bf16) (ACC : Memref sig .tc .vmem S8x272x256 .f32) (SC : Memref sig .tc .vmem S1024x256 .f32)
    {oL : Fin 3 → ℕ} (hL : ∀ a, oL a + S1x128x1024.size a ≤ S1x144x16384.size a)
    {oH : Fin 3 → ℕ} (hH : ∀ a, oH a + S1x144x1024.size a ≤ S1x144x16384.size a)
    {ao : Fin 3 → ℕ} (ha : ∀ a, ao a + S1x272x256.size a ≤ S8x272x256.size a)
    (eL : oL = ![0, 0, 1024 * t]) (eH : oH = ![0, 0, 1024 * t]) (ea : ao = ![n.val, 0, 0]) (k : Pg F α) :
    hasS d SC 1024 (stk 1024 (blk I n t)) ⊢ iprop(own d VL I.vl -∗ own d VH I.vh -∗ own d ACC (accOf (accSt I c t j))
      -∗ (anyS d SC -∗ own d VL I.vl -∗ own d VH I.vh -∗ own d ACC (accOf (accSt I c t j')) -∗ WP d k Q)
      -∗ WP d (softN VL VH ACC SC oL hL oH hH ao ha (chain I c n t).m (max4 (blk I n t)) k) Q) := by
  subst hj hj'
  have h := rule_softN d Q VL VH ACC SC I.vl I.vh (accSt I c t n.val) n (1024 * t) (stk 1024 (blk I n t)) hL hH ha eL eH ea
    (chain I c n t).m (max4 (blk I n t)) k
  rw [accSt_step I c t n _ (by simp [accSt]; rfl)] at h
  exact h

/-- The first step of chain `n`, its accumulator among the others. -/
theorem rule_step0 (A : Fin 8 → Vec F S1x272x256 .f32) {w : ℕ} (W : Wid w) (mx : (Fin 4 → FVec F S256x256 .f32) → FVec F S1x256 .f32) (l : Fin 4)
    (n : Fin 8) (hn : chInit I c n = ch0 I c W mx l n) (j j' : ℕ) (hj : n.val = j) (hj' : j + 1 = j')
    (VL VH : Memref sig .tc .vmem S1x144x16384 .bf16) (ACC : Memref sig .tc .vmem S8x272x256 .f32) (SC : Memref sig .tc .vmem S1024x256 .f32)
    {oL : Fin 3 → ℕ} (hL : ∀ a, oL a + (⟨3, ![1, 128, w]⟩ : Shape).size a ≤ S1x144x16384.size a)
    {oH : Fin 3 → ℕ} (hH : ∀ a, oH a + (⟨3, ![1, 144, w]⟩ : Shape).size a ≤ S1x144x16384.size a)
    {ao : Fin 3 → ℕ} (ha : ∀ a, ao a + S1x272x256.size a ≤ S8x272x256.size a)
    (eL : oL = ![0, 0, 1024 * c]) (eH : oH = ![0, 0, 1024 * c]) (ea : ao = ![n.val, 0, 0]) (k : Pg F α) :
    hasS d SC w (stk w (maskAt l (blk I n c))) ⊢ iprop(own d VL I.vl -∗ own d VH I.vh -∗ own d ACC (accOf (accPr I c A j))
      -∗ (anyS d SC -∗ own d VL I.vl -∗ own d VH I.vh -∗ own d ACC (accOf (accPr I c A j')) -∗ WP d k Q)
      -∗ WP d (soft0 VL VH ACC W SC oL hL oH hH ao ha (mx (maskAt l (blk I n c))) k) Q) := by
  subst hj hj'
  have h := rule_soft0 d Q VL VH ACC SC I.vl I.vh (accPr I c A n.val) n (1024 * c) W (stk w (maskAt l (blk I n c))) hL hH ha eL eH ea
    (mx (maskAt l (blk I n c))) k
  rw [accPr_step I c A n _ (by rw [hn]; rfl)] at h
  exact h

/-- What a loop holds before chunk `t`. -/
def RS (t : ℕ) : sProp 𝕄 :=
  iprop(own d B.ka I.ka ∗ own d B.kb I.kb ∗ own d B.vl I.vl ∗ own d B.vh I.vh ∗ own d B.acc (accOf fun n => (chain I c n t).a)
    ∗ hasS d B.s0 1024 (stk 1024 (blk I 0 t)) ∗ anyS d B.s1 ∗ anyS d B.s2 ∗ anyS d B.s3 ∗ anyS d B.s4 ∗ anyS d B.s5 ∗ anyS d B.s6 ∗ anyS d B.s7)

/-- A round takes the chains over chunk `t`. -/
theorem rule_round (t : ℕ) (O : Offs) (hko : ∀ r, O.ko r = ![0, 1024 * t + 256 * r.val, 0]) (hlo : O.lo = ![0, 0, 1024 * t])
    (hho : O.ho = ![0, 0, 1024 * t]) (hno : ∀ r, O.no r = ![0, 1024 * (t + 1) + 256 * r.val, 0]) (k : St F → Pg F α) :
    RS d B I c t ⊢ iprop((RS d B I c (t + 1) -∗ WP d (k (stOf I c (t + 1))) Q) -∗ WP d (round B (qsOf I) O (stOf I c t) k) Q) := by
  have e : stOf I c (t + 1) = (maximumf (chain I c 0 t).m (max4 (blk I 0 t)), maximumf (chain I c 1 t).m (max4 (blk I 1 t)),
    maximumf (chain I c 2 t).m (max4 (blk I 2 t)), maximumf (chain I c 3 t).m (max4 (blk I 3 t)),
    maximumf (chain I c 4 t).m (max4 (blk I 4 t)), maximumf (chain I c 5 t).m (max4 (blk I 5 t)),
    maximumf (chain I c 6 t).m (max4 (blk I 6 t)), maximumf (chain I c 7 t).m (max4 (blk I 7 t)), max4 (blk I 0 (t + 1))) := rfl
  rw [e]
  unfold RS
  rw [← accSt_zero, ← accSt_all]
  unfold round stOf qsOf
  dsimp only
  iintro ⟨HKa, HKb, HL, HH, HA, H0, H1, H2, H3, H4, H5, H6, H7⟩ Hk
  iapply (rule_scores4 d Q I 1 t B.kb I.kb rfl hko O.hk B.s1 (qOf I 1) rfl) $$ HKb H1
  iintro HKb H1
  iapply (rule_stepN d Q I c t 0 0 1 rfl rfl B.vl B.vh B.acc B.s0 O.hl O.hh inb_S8x272x256_S1x272x256_0_0_0 hlo hho rfl) $$ H0 HL HH HA
  iintro H0 HL HH HA
  iapply (rule_scores4 d Q I 2 t B.ka I.ka rfl hko O.hk B.s2 (qOf I 2) rfl) $$ HKa H2
  iintro HKa H2
  iapply (rule_stepN d Q I c t 1 1 2 rfl rfl B.vl B.vh B.acc B.s1 O.hl O.hh inb_S8x272x256_S1x272x256_1_0_0 hlo hho rfl) $$ H1 HL HH HA
  iintro H1 HL HH HA
  iapply (rule_scores4 d Q I 3 t B.kb I.kb rfl hko O.hk B.s3 (qOf I 3) rfl) $$ HKb H3
  iintro HKb H3
  iapply (rule_stepN d Q I c t 2 2 3 rfl rfl B.vl B.vh B.acc B.s2 O.hl O.hh inb_S8x272x256_S1x272x256_2_0_0 hlo hho rfl) $$ H2 HL HH HA
  iintro H2 HL HH HA
  iapply (rule_scores4 d Q I 4 t B.ka I.ka rfl hko O.hk B.s4 (qOf I 4) rfl) $$ HKa H4
  iintro HKa H4
  iapply (rule_stepN d Q I c t 3 3 4 rfl rfl B.vl B.vh B.acc B.s3 O.hl O.hh inb_S8x272x256_S1x272x256_3_0_0 hlo hho rfl) $$ H3 HL HH HA
  iintro H3 HL HH HA
  iapply (rule_scores4 d Q I 5 t B.kb I.kb rfl hko O.hk B.s5 (qOf I 5) rfl) $$ HKb H5
  iintro HKb H5
  iapply (rule_stepN d Q I c t 4 4 5 rfl rfl B.vl B.vh B.acc B.s4 O.hl O.hh inb_S8x272x256_S1x272x256_4_0_0 hlo hho rfl) $$ H4 HL HH HA
  iintro H4 HL HH HA
  iapply (rule_scores4 d Q I 6 t B.ka I.ka rfl hko O.hk B.s6 (qOf I 6) rfl) $$ HKa H6
  iintro HKa H6
  iapply (rule_stepN d Q I c t 5 5 6 rfl rfl B.vl B.vh B.acc B.s5 O.hl O.hh inb_S8x272x256_S1x272x256_5_0_0 hlo hho rfl) $$ H5 HL HH HA
  iintro H5 HL HH HA
  iapply (rule_scores4 d Q I 7 t B.kb I.kb rfl hko O.hk B.s7 (qOf I 7) rfl) $$ HKb H7
  iintro HKb H7
  iapply (rule_stepN d Q I c t 6 6 7 rfl rfl B.vl B.vh B.acc B.s6 O.hl O.hh inb_S8x272x256_S1x272x256_6_0_0 hlo hho rfl) $$ H6 HL HH HA
  iintro H6 HL HH HA
  iapply (rule_scores4 d Q I 0 (t + 1) B.ka I.ka rfl hno O.hn B.s0 (qOf I 0) rfl) $$ HKa H0
  iintro HKa H0
  iapply (rule_stepN d Q I c t 7 7 8 rfl rfl B.vl B.vh B.acc B.s7 O.hl O.hh inb_S8x272x256_S1x272x256_7_0_0 hlo hho rfl) $$ H7 HL HH HA
  iintro H7 HL HH HA
  iapply Hk
  isplitl [HKa]
  · iexact HKa
  isplitl [HKb]
  · iexact HKb
  isplitl [HL]
  · iexact HL
  isplitl [HH]
  · iexact HH
  isplitl [HA]
  · iexact HA
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

/-- A loop of rounds: each trip takes `step` chunks. -/
theorem rule_loop (L : Scf.Loop 32) (ok : L.OK) (body : Fin L.trips → St F → Pg F (St F)) (base step e : ℕ) (he : base + step * L.trips = e)
    (hb : ∀ k : Fin L.trips, RS d B I c (base + step * k.val) ⊢ WP d (body k (stOf I c (base + step * k.val)))
      (fun acc => iprop(⌜acc = stOf I c (base + step * (k.val + 1))⌝ ∗ RS d B I c (base + step * (k.val + 1)))))
    (kk : St F → Pg F α) :
    RS d B I c base ⊢ iprop((RS d B I c e -∗ WP d (kk (stOf I c e)) Q) -∗ WP d (Scf.Loop.for L ok (stOf I c base) body >>= kk) Q) := by
  subst he
  iintro H Hk
  iapply (Scf.wp_for_bind frame (wpE (defs₀ (F := F)) Variants.none (d : Thread nD τ) none) Set.univ L.lb L.ub L.st ok (stOf I c base) body
    (fun k acc => iprop(⌜acc = stOf I c (base + step * k)⌝ ∗ RS d B I c (base + step * k)))
    (fun k acc => by
      iintro ⟨%h, H⟩
      subst h
      iapply (hb k)
      iexact H)) $$ [H]
  · isplitr [H]
    · ipureintro; simp
    · simp only [Nat.mul_zero, Nat.add_zero]
      iexact H
  iintro %acc ⟨%h, H⟩
  subst h
  iapply Hk
  iexact H

variable (i : grid0.Coords)

theorem rule_body1 (k : Fin (k0_t1_loop i).trips) :
    RS d B I c (0 + 4 * k.val) ⊢ WP d (body1 B (qsOf I) i k (stOf I c (0 + 4 * k.val)))
      (fun acc => iprop(⌜acc = stOf I c (0 + 4 * (k.val + 1))⌝ ∗ RS d B I c (0 + 4 * (k.val + 1)))) := by
  have e : 0 + 4 * (k.val + 1) = 4 * k.val + 0 + 1 + 1 + 1 + 1 := by omega
  have e' : 0 + 4 * k.val = 4 * k.val + 0 := by omega
  rw [e, e']
  unfold body1
  iintro H
  iapply (rule_round d _ B I c (4 * k.val + 0) (offs1 i k 0) (off10_eq i k 0) (off11_eq i k 0) (off11_eq i k 0) (off13_eq i k 0)) $$ H
  iintro H
  iapply (rule_round d _ B I c (4 * k.val + 0 + 1) (offs1 i k 1) (off10_eq i k 1) (off11_eq i k 1) (off11_eq i k 1) (off13_eq i k 1)) $$ H
  iintro H
  iapply (rule_round d _ B I c (4 * k.val + 0 + 1 + 1) (offs1 i k 2) (off10_eq i k 2) (off11_eq i k 2) (off11_eq i k 2) (off13_eq i k 2)) $$ H
  iintro H
  iapply (rule_round d _ B I c (4 * k.val + 0 + 1 + 1 + 1) (offs1 i k 3) (off10_eq i k 3) (off11_eq i k 3) (off11_eq i k 3) (off13_eq i k 3)) $$ H
  iintro H
  unfold WP
  rw [wp_ret]
  imodintro
  isplitr [H]
  · ipureintro; rfl
  · iexact H

theorem rule_body3 (k : Fin (k0_t3_loop i).trips) :
    RS d B I c (cOf i / 4 * 4 + 2 * k.val) ⊢ WP d (body3 B (qsOf I) i k (stOf I c (cOf i / 4 * 4 + 2 * k.val)))
      (fun acc => iprop(⌜acc = stOf I c (cOf i / 4 * 4 + 2 * (k.val + 1))⌝ ∗ RS d B I c (cOf i / 4 * 4 + 2 * (k.val + 1)))) := by
  have e : cOf i / 4 * 4 + 2 * (k.val + 1) = cOf i / 4 * 4 + 2 * k.val + 1 + 1 := by omega
  rw [e]
  unfold body3
  iintro H
  iapply (rule_round d _ B I c (cOf i / 4 * 4 + 2 * k.val) (offs3 i k 0) (off18_eq i k 0) (off19_eq i k 0) (off19_eq i k 0) (off21_eq i k 0)) $$ H
  iintro H
  iapply (rule_round d _ B I c (cOf i / 4 * 4 + 2 * k.val + 1) (offs3 i k 1) (off18_eq i k 1) (off19_eq i k 1) (off19_eq i k 1) (off21_eq i k 1)) $$ H
  iintro H
  unfold WP
  rw [wp_ret]
  imodintro
  isplitr [H]
  · ipureintro; rfl
  · iexact H

theorem rule_body5 (k : Fin (k0_t5_loop i).trips) :
    RS d B I c (cOf i / 2 * 2 + 1 * k.val) ⊢ WP d (body5 B (qsOf I) i k (stOf I c (cOf i / 2 * 2 + 1 * k.val)))
      (fun acc => iprop(⌜acc = stOf I c (cOf i / 2 * 2 + 1 * (k.val + 1))⌝ ∗ RS d B I c (cOf i / 2 * 2 + 1 * (k.val + 1)))) := by
  have e : cOf i / 2 * 2 + 1 * (k.val + 1) = cOf i / 2 * 2 + k.val + 1 := by omega
  have e' : cOf i / 2 * 2 + 1 * k.val = cOf i / 2 * 2 + k.val := by omega
  rw [e, e']
  unfold body5
  iintro H
  iapply (rule_round d _ B I c (cOf i / 2 * 2 + k.val) (offs5 i k) (off26_eq i k) (off27_eq i k) (off27_eq i k) (off29_eq i k)) $$ H
  iintro H
  unfold WP
  rw [wp_ret]
  imodintro
  isplitr [H]
  · ipureintro; rfl
  · iexact H

/-- The three loops: from the own chunk's state to the state after all chunks before it. -/
theorem rule_loops (hc : cOf i = c) (kk : St F → Pg F α) :
    RS d B I c 0 ⊢ iprop((RS d B I c c -∗ WP d (kk (stOf I c c)) Q) -∗ WP d
      (Scf.Loop.for (k0_t1_loop i) (k0_t1_ok i) (stOf I c 0) (body1 B (qsOf I) i) >>= fun m =>
       Scf.Loop.for (k0_t3_loop i) (k0_t3_ok i) m (body3 B (qsOf I) i) >>= fun m =>
       Scf.Loop.for (k0_t5_loop i) (k0_t5_ok i) m (body5 B (qsOf I) i) >>= kk) Q) := by
  have h1 : 0 + 4 * (k0_t1_loop i).trips = cOf i / 4 * 4 := by rw [trips1]; omega
  have h3 : cOf i / 4 * 4 + 2 * (k0_t3_loop i).trips = cOf i / 2 * 2 := by rw [trips3]; omega
  have h5 : cOf i / 2 * 2 + 1 * (k0_t5_loop i).trips = c := by rw [trips5]; omega
  iintro H Hk
  iapply (rule_loop d Q B I c (k0_t1_loop i) (k0_t1_ok i) (body1 B (qsOf I) i) 0 4 _ h1 (rule_body1 d B I c i)) $$ H
  iintro H
  iapply (rule_loop d Q B I c (k0_t3_loop i) (k0_t3_ok i) (body3 B (qsOf I) i) _ 2 _ h3 (rule_body3 d B I c i)) $$ H
  iintro H
  iapply (rule_loop d Q B I c (k0_t5_loop i) (k0_t5_ok i) (body5 B (qsOf I) i) _ 1 _ h5 (rule_body5 d B I c i)) $$ H
  iintro H
  iapply Hk
  iexact H

theorem headK_eq (r : Fin 4) : headK r = ![0, 1024 * 0 + 256 * r.val, 0] := by
  fin_cases r <;> rfl

/-- The own chunk. -/
theorem rule_prologue (hc : cOf i = c) (A : Fin 8 → Vec F S1x272x256 .f32) (k : St F → Pg F α) :
    iprop(own d B.ka I.ka ∗ own d B.kb I.kb ∗ own d B.vl I.vl ∗ own d B.vh I.vh ∗ own d B.acc (accOf A)
      ∗ anyS d B.s0 ∗ anyS d B.s1 ∗ anyS d B.s2 ∗ anyS d B.s3 ∗ anyS d B.s4 ∗ anyS d B.s5 ∗ anyS d B.s6 ∗ anyS d B.s7)
    ⊢ iprop((RS d B I c 0 -∗ WP d (k (stOf I c 0)) Q) -∗ WP d (prologue B (qsOf I) i k) Q) := by
  subst hc
  have e : stOf I (cOf i) 0 = (max4 (maskAt 3 (blk I 0 (cOf i))), max4 (maskAt 3 (blk I 1 (cOf i))), max3 (maskAt 2 (blk I 2 (cOf i))),
    max3 (maskAt 2 (blk I 3 (cOf i))), max2 (maskAt 1 (blk I 4 (cOf i))), max2 (maskAt 1 (blk I 5 (cOf i))), max1 (maskAt 0 (blk I 6 (cOf i))),
    max1 (maskAt 0 (blk I 7 (cOf i))), max4 (blk I 0 0)) := rfl
  have hl : k0_off2 i = ![0, 0, 1024 * cOf i] := off2_eq i
  rw [e]
  unfold RS
  rw [← accPr_all I (cOf i) A]
  unfold prologue qsOf
  dsimp only
  rw [← accPr_zero I (cOf i) A]
  iintro ⟨HKa, HKb, HL, HH, HA, H0, H1, H2, H3, H4, H5, H6, H7⟩ Hk
  iapply (rule_scores4m d Q I 0 (cOf i) B.ka I.ka rfl (off1_eq i) (ownK_inb i) B.s0 (qOf I 0) rfl) $$ HKa H0
  iintro HKa H0
  iapply (rule_scores4m d Q I 1 (cOf i) B.kb I.kb rfl (off1_eq i) (ownK_inb i) B.s1 (qOf I 1) rfl) $$ HKb H1
  iintro HKb H1
  iapply (rule_step0 d Q I (cOf i) A wid1024 max4 3 0 rfl 0 1 rfl rfl B.vl B.vh B.acc B.s0 (k0_off2_inb i) (k0_off3_inb i) inb_S8x272x256_S1x272x256_0_0_0 hl hl rfl) $$ H0 HL HH HA
  iintro H0 HL HH HA
  iapply (rule_scores3m d Q I 2 (cOf i) B.ka I.ka rfl (off1_eq i) (ownK_inb i) B.s2 (qOf I 2) rfl) $$ HKa H2
  iintro HKa H2
  iapply (rule_step0 d Q I (cOf i) A wid1024 max4 3 1 rfl 1 2 rfl rfl B.vl B.vh B.acc B.s1 (k0_off2_inb i) (k0_off3_inb i) inb_S8x272x256_S1x272x256_1_0_0 hl hl rfl) $$ H1 HL HH HA
  iintro H1 HL HH HA
  iapply (rule_scores3m d Q I 3 (cOf i) B.kb I.kb rfl (off1_eq i) (ownK_inb i) B.s3 (qOf I 3) rfl) $$ HKb H3
  iintro HKb H3
  iapply (rule_step0 d Q I (cOf i) A wid768 max3 2 2 rfl 2 3 rfl rfl B.vl B.vh B.acc B.s2 (k0_off4_inb i) (k0_off5_inb i) inb_S8x272x256_S1x272x256_2_0_0 hl hl rfl) $$ H2 HL HH HA
  iintro H2 HL HH HA
  iapply (rule_scores2m d Q I 4 (cOf i) B.ka I.ka rfl (off1_eq i) (ownK_inb i) B.s4 (qOf I 4) rfl) $$ HKa H4
  iintro HKa H4
  iapply (rule_step0 d Q I (cOf i) A wid768 max3 2 3 rfl 3 4 rfl rfl B.vl B.vh B.acc B.s3 (k0_off4_inb i) (k0_off5_inb i) inb_S8x272x256_S1x272x256_3_0_0 hl hl rfl) $$ H3 HL HH HA
  iintro H3 HL HH HA
  iapply (rule_scores2m d Q I 5 (cOf i) B.kb I.kb rfl (off1_eq i) (ownK_inb i) B.s5 (qOf I 5) rfl) $$ HKb H5
  iintro HKb H5
  iapply (rule_step0 d Q I (cOf i) A wid512 max2 1 4 rfl 4 5 rfl rfl B.vl B.vh B.acc B.s4 (k0_off6_inb i) (k0_off7_inb i) inb_S8x272x256_S1x272x256_4_0_0 hl hl rfl) $$ H4 HL HH HA
  iintro H4 HL HH HA
  iapply (rule_scores1m d Q I 6 (cOf i) B.ka I.ka rfl (off1_eq i) (ownK_inb i) B.s6 (qOf I 6) rfl) $$ HKa H6
  iintro HKa H6
  iapply (rule_step0 d Q I (cOf i) A wid512 max2 1 5 rfl 5 6 rfl rfl B.vl B.vh B.acc B.s5 (k0_off6_inb i) (k0_off7_inb i) inb_S8x272x256_S1x272x256_5_0_0 hl hl rfl) $$ H5 HL HH HA
  iintro H5 HL HH HA
  iapply (rule_scores1m d Q I 7 (cOf i) B.kb I.kb rfl (off1_eq i) (ownK_inb i) B.s7 (qOf I 7) rfl) $$ HKb H7
  iintro HKb H7
  iapply (rule_step0 d Q I (cOf i) A wid256 max1 0 6 rfl 6 7 rfl rfl B.vl B.vh B.acc B.s6 (k0_off8_inb i) (k0_off9_inb i) inb_S8x272x256_S1x272x256_6_0_0 hl hl rfl) $$ H6 HL HH HA
  iintro H6 HL HH HA
  iapply (rule_scores4 d Q I 0 0 B.ka I.ka rfl headK_eq headK_inb B.s0 (qOf I 0) rfl) $$ HKa H0
  iintro HKa H0
  iapply (rule_step0 d Q I (cOf i) A wid256 max1 0 7 rfl 7 8 rfl rfl B.vl B.vh B.acc B.s7 (k0_off8_inb i) (k0_off9_inb i) inb_S8x272x256_S1x272x256_7_0_0 hl hl rfl) $$ H7 HL HH HA
  iintro H7 HL HH HA
  iapply Hk
  isplitl [HKa]
  · iexact HKa
  isplitl [HKb]
  · iexact HKb
  isplitl [HL]
  · iexact HL
  isplitl [HH]
  · iexact HH
  isplitl [HA]
  · iexact HA
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

theorem rule_loadQs (k : FVec F S1x128x256 .bf16 → FVec F S1x128x256 .bf16 → FVec F S1x128x256 .bf16 → FVec F S1x128x256 .bf16 →
    FVec F S1x128x256 .bf16 → FVec F S1x128x256 .bf16 → FVec F S1x128x256 .bf16 → FVec F S1x128x256 .bf16 → Pg F α) (p : Qs F → Pg F α)
    (hk : ∀ x0 x1 x2 x3 x4 x5 x6 x7, k x0 x1 x2 x3 x4 x5 x6 x7 = p (mkQs x0 x1 x2 x3 x4 x5 x6 x7)) :
    own d B.qa I.qa ⊢ iprop(own d B.qb I.qb -∗ (own d B.qa I.qa -∗ own d B.qb I.qb -∗ WP d (p (qsOf I)) Q) -∗ WP d (loadQs B k) Q) := by
  have e : qsOf I = mkQs (VecWindow.window I.qa ![0, 0, 768] S1x128x256.size inb_S1x128x1024_S1x128x256_0_0_768)
    (VecWindow.window I.qb ![0, 0, 768] S1x128x256.size inb_S1x128x1024_S1x128x256_0_0_768)
    (VecWindow.window I.qa ![0, 0, 512] S1x128x256.size inb_S1x128x1024_S1x128x256_0_0_512)
    (VecWindow.window I.qb ![0, 0, 512] S1x128x256.size inb_S1x128x1024_S1x128x256_0_0_512)
    (VecWindow.window I.qa ![0, 0, 256] S1x128x256.size inb_S1x128x1024_S1x128x256_0_0_256)
    (VecWindow.window I.qb ![0, 0, 256] S1x128x256.size inb_S1x128x1024_S1x128x256_0_0_256)
    (VecWindow.window I.qa ![0, 0, 0] S1x128x256.size inb_S1x128x1024_S1x128x256_0_0_0)
    (VecWindow.window I.qb ![0, 0, 0] S1x128x256.size inb_S1x128x1024_S1x128x256_0_0_0) := rfl
  rw [e]
  unfold loadQs loadQ
  iintro HA HB Hk
  iapply (rule_load d B.qa I.qa Q) $$ HA
  iintro HA
  iapply (rule_load d B.qb I.qb Q) $$ HB
  iintro HB
  iapply (rule_load d B.qa I.qa Q) $$ HA
  iintro HA
  iapply (rule_load d B.qb I.qb Q) $$ HB
  iintro HB
  iapply (rule_load d B.qa I.qa Q) $$ HA
  iintro HA
  iapply (rule_load d B.qb I.qb Q) $$ HB
  iintro HB
  iapply (rule_load d B.qa I.qa Q) $$ HA
  iintro HA
  iapply (rule_load d B.qb I.qb Q) $$ HB
  iintro HB
  rw [hk]
  iapply Hk $$ HA HB

/-- The vectors the closing blocks read. -/
def LS : sProp 𝕄 := iprop(own d B.la I.la ∗ own d B.lb I.lb ∗ own d B.lc I.lc ∗ own d B.ld I.ld)

theorem rule_loadLam (k : FVec F S1x1 .f32 → Pg F α) :
    LS d B I ⊢ iprop((LS d B I -∗ WP d (k (lamV I.la I.lb I.lc I.ld)) Q) -∗ WP d (loadLam B k) Q) := by
  have w : ∀ (X : Vec F S1x128 .f32), VecWindow.window X ![0, 0] S1x128.size inb_S1x128_S1x128_0_0 = X := fun X => by
    funext x
    exact congrArg X (by funext a; fin_cases a <;> (apply Fin.ext; simp))
  unfold loadLam LS
  iintro ⟨Ha, Hb, Hc, Hd⟩ Hk
  iapply (rule_load d B.la I.la Q) $$ Ha
  iintro Ha
  iapply (rule_load d B.lb I.lb Q) $$ Hb
  iintro Hb
  iapply (rule_load d B.lc I.lc Q) $$ Hc
  iintro Hc
  iapply (rule_load d B.ld I.ld Q) $$ Hd
  iintro Hd
  rw [w, w, w, w]
  iapply Hk
  isplitl [Ha]
  · iexact Ha
  isplitl [Hb]
  · iexact Hb
  isplitl [Hc]
  · iexact Hc
  iexact Hd

theorem rule_closeStep (A : Fin 8 → Vec F S1x272x256 .f32) (X : Vec F S1024x256 .bf16) (n n' : Fin 8)
    {ao : Fin 3 → ℕ} (ha : ∀ a, ao a + S1x272x256.size a ≤ S8x272x256.size a) {bo : Fin 3 → ℕ} (hb : ∀ a, bo a + S1x272x256.size a ≤ S8x272x256.size a)
    (ea : ao = ![n.val, 0, 0]) (eb : bo = ![n'.val, 0, 0])
    (ro : Fin 2 → ℕ) (hr : ∀ a, ro a + S256x256.size a ≤ S1024x256.size a)
    (pk : (Rect.unit (s := S1024x256) ro S256x256.size hr).PackedRows (EltTy.packing .bf16))
    (lam : FVec F S1x1 .f32) (k : Pg F α) :
    own d B.acc (accOf A) ⊢ iprop(own d B.g I.g -∗ own d B.o X
      -∗ (own d B.acc (accOf A) -∗ own d B.g I.g -∗ own d B.o (VecWindow.put X ro S256x256.size (outV (diffV lam (A n) (A n')) I.g)) -∗ WP d k Q)
      -∗ WP d (closeStep B ao ha bo hb ro hr pk lam k) Q) := by
  have w : VecWindow.window I.g ![0, 0] S256x1.size inb_S256x1_S256x1_0_0 = I.g := by
    funext x
    exact congrArg I.g (by funext a; fin_cases a <;> (apply Fin.ext; simp))
  unfold closeStep
  iintro HA HG HO Hk
  iapply (rule_load d B.acc (accOf A) Q) $$ HA
  iintro HA
  iapply (rule_load d B.acc (accOf A) Q) $$ HA
  iintro HA
  iapply (rule_load d B.g I.g Q) $$ HG
  iintro HG
  iapply (rule_load d B.o X Q) $$ HO
  iintro HO
  iapply (rule_store d B.o X Q) $$ HO
  iintro HO
  rw [window_accOf A n ea, window_accOf A n' eb, w]
  iapply Hk $$ HA HG HO

end Rules

section Whole
variable (d : Dev nD) (Q : PUnit → sProp (MT nD τ sig Unit (Elt F) ℕ (UR sig nD τ) ℕ)) (B : Bufs) (I : Ins F) (c : ℕ)

theorem rule_closing (X : Vec F S1024x256 .bf16) :
    LS d B I ⊢ iprop(own d B.acc (accOf fun n => (chain I c n c).a) -∗ own d B.g I.g -∗ own d B.o X
      -∗ (LS d B I -∗ own d B.acc (accOf fun n => (chain I c n c).a) -∗ own d B.g I.g -∗ own d B.o (outF I c) -∗ Q ⟨⟩)
      -∗ WP d (closing B) Q) := by
  have e : outF I c = VecWindow.put (VecWindow.put (VecWindow.put (VecWindow.put X ![0, 0] S256x256.size (outB I c 6 7)) ![256, 0] S256x256.size (outB I c 4 5))
    ![512, 0] S256x256.size (outB I c 2 3)) ![768, 0] S256x256.size (outB I c 0 1) :=
    (put4_eq X fun r => match r with | 0 => outB I c 6 7 | 1 => outB I c 4 5 | 2 => outB I c 2 3 | 3 => outB I c 0 1).symm
  rw [e]
  unfold closing outB
  iintro HS HA HG HO Hk
  iapply (rule_loadLam d _ B I) $$ HS
  iintro HS
  iapply (rule_closeStep d _ B I (fun n => (chain I c n c).a) X 6 7 inb_S8x272x256_S1x272x256_6_0_0 inb_S8x272x256_S1x272x256_7_0_0 rfl rfl) $$ HA HG HO
  iintro HA HG HO
  iapply (rule_closeStep d _ B I (fun n => (chain I c n c).a) _ 4 5 inb_S8x272x256_S1x272x256_4_0_0 inb_S8x272x256_S1x272x256_5_0_0 rfl rfl) $$ HA HG HO
  iintro HA HG HO
  iapply (rule_closeStep d _ B I (fun n => (chain I c n c).a) _ 2 3 inb_S8x272x256_S1x272x256_2_0_0 inb_S8x272x256_S1x272x256_3_0_0 rfl rfl) $$ HA HG HO
  iintro HA HG HO
  iapply (rule_closeStep d _ B I (fun n => (chain I c n c).a) _ 0 1 inb_S8x272x256_S1x272x256_0_0_0 inb_S8x272x256_S1x272x256_1_0_0 rfl rfl) $$ HA HG HO
  iintro HA HG HO
  unfold WP
  rw [wp_ret]
  imodintro
  iapply Hk $$ HS HA HG HO

/-- The buffers a grid point reads. -/
def InS : sProp 𝕄 :=
  iprop(own d B.qa I.qa ∗ own d B.qb I.qb ∗ own d B.ka I.ka ∗ own d B.kb I.kb ∗ own d B.vl I.vl ∗ own d B.vh I.vh ∗ LS d B I ∗ own d B.g I.g)

/-- The scratch buffers at anything. -/
def ScS : sProp 𝕄 :=
  iprop((∃ X, own d B.acc X) ∗ anyS (F := F) d B.s0 ∗ anyS (F := F) d B.s1 ∗ anyS (F := F) d B.s2 ∗ anyS (F := F) d B.s3 ∗ anyS (F := F) d B.s4
    ∗ anyS (F := F) d B.s5 ∗ anyS (F := F) d B.s6 ∗ anyS (F := F) d B.s7)

/-- A grid point's body. -/
theorem rule_whole (i : grid0.Coords) :
    InS d B I ⊢ iprop(ScS (F := F) d B -∗ (∃ X, own d B.o X)
      -∗ (InS d B I -∗ ScS (F := F) d B -∗ own d B.o (outF I (cOf i)) -∗ Q ⟨⟩) -∗ WP d (whole B i) Q) := by
  unfold InS ScS
  iintro ⟨Hqa, Hqb, HKa, HKb, HL, HH, HS, HG⟩ ⟨⟨%XA, HA⟩, H0, H1, H2, H3, H4, H5, H6, H7⟩ ⟨%XO, HO⟩ Hk
  obtain ⟨A, hA⟩ := exists_accOf XA
  subst hA
  unfold whole
  iapply (rule_loadQs d _ B I _ (fun q => prologue B q i fun m =>
    Scf.Loop.for (k0_t1_loop i) (k0_t1_ok i) m (body1 B q i) >>= fun m =>
    Scf.Loop.for (k0_t3_loop i) (k0_t3_ok i) m (body3 B q i) >>= fun m =>
    Scf.Loop.for (k0_t5_loop i) (k0_t5_ok i) m (body5 B q i) >>= fun _ => closing B) (fun _ _ _ _ _ _ _ _ => rfl)) $$ Hqa Hqb
  iintro Hqa Hqb
  iapply (rule_prologue d _ B I (cOf i) i rfl A) $$ [HKa HKb HL HH HA H0 H1 H2 H3 H4 H5 H6 H7]
  · isplitl [HKa]
    · iexact HKa
    isplitl [HKb]
    · iexact HKb
    isplitl [HL]
    · iexact HL
    isplitl [HH]
    · iexact HH
    isplitl [HA]
    · iexact HA
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    iexact H7
  iintro H
  iapply (rule_loops d _ B I (cOf i) i rfl) $$ H
  iintro H
  unfold RS
  icases H with ⟨HKa, HKb, HL, HH, HA, H0, H1, H2, H3, H4, H5, H6, H7⟩
  iapply (rule_closing d _ B I (cOf i) XO) $$ HS HA HG HO
  iintro HS HA HG HO
  iapply Hk $$ [Hqa Hqb HKa HKb HL HH HS HG] [HA H0 H1 H2 H3 H4 H5 H6 H7] HO
  · isplitl [Hqa]
    · iexact Hqa
    isplitl [Hqb]
    · iexact Hqb
    isplitl [HKa]
    · iexact HKa
    isplitl [HKb]
    · iexact HKb
    isplitl [HL]
    · iexact HL
    isplitl [HH]
    · iexact HH
    isplitl [HS]
    · iexact HS
    iexact HG
  · isplitl [HA]
    · iexists _
      iexact HA
    isplitl [H0]
    · iapply (any_of_has d B.s0)
      iexact H0
    isplitl [H1]
    · iexact H1
    isplitl [H2]
    · iexact H2
    isplitl [H3]
    · iexact H3
    isplitl [H4]
    · iexact H4
    isplitl [H5]
    · iexact H5
    isplitl [H6]
    · iexact H6
    iexact H7

end Whole

end Cert.KernelIdeal.Hand
-- ==== Proof.ProgEq.lean ====
/- The printed body is the short program. -/
module

public import proofs.«01_k».proof.Proof.Prog
public import Idealize.ShloMosaic.Lib.LoopRemainder

@[expose] public section

noncomputable section

namespace Cert.KernelIdeal.Hand

open Cert.KernelIdeal
open Idealize.ShloMosaic Idealize.SL.Sem
open Facts₀ Facts

variable {F : FTy → Type} [FloatOps F]

/-- Two sequences are equal when their heads and their tails are. -/
theorem seq_congr {α β : Type} {a a' : Pg F α} {f f' : α → Pg F β} (h : a = a') (h2 : ∀ x, f x = f' x) : a >>= f = a' >>= f' := by
  rw [h, funext h2]

/-- A sequence inside a sequence, opened. -/
theorem seq_open {α β γ : Type} {a : Pg F α} {f : α → Pg F β} {g : β → Pg F γ} {r : Pg F γ} (h : (a >>= fun x => f x >>= g) = r) :
    (a >>= f) >>= g = r := by rw [bind_assoc]; exact h

/-- A loop of no trips in front of a program. -/
theorem seq_skip {β σ : Type} (L : Scf.Loop 32) (ok : L.OK) (m : σ) (body : Fin L.trips → σ → Pg F σ) {f : σ → Pg F β} {r : Pg F β}
    (htr : L.trips = 0) (h : f m = r) : (Scf.Loop.for L ok m body >>= f) = r := by
  rw [← h]
  exact (congrArg (· >>= f) (Scf.for_eq_ret _ _ _ _ _ _ htr)).trans (pure_bind m f)

/-! The remainder loops make no trip. -/

theorem trips2 (i : grid0.Coords) : (k0_t2_loop i).trips = 0 := by
  have hi : (i 2).val < 16 := (i 2).isLt
  unfold k0_t2_loop
  generalize (i 2).val = n at hi
  interval_cases n <;> decide
theorem trips4 (i : grid0.Coords) : (k0_t4_loop i).trips = 0 := by
  have hi : (i 2).val < 16 := (i 2).isLt
  unfold k0_t4_loop
  generalize (i 2).val = n at hi
  interval_cases n <;> decide
theorem trips6 (i : grid0.Coords) : (k0_t6_loop i).trips = 0 := by
  have hi : (i 2).val < 16 := (i 2).isLt
  unfold k0_t6_loop
  generalize (i 2).val = n at hi
  interval_cases n <;> decide

set_option maxRecDepth 100000 in
set_option maxHeartbeats 0 in
theorem whole_eq (i : grid0.Coords) (arg3 : Memref sig .tc .vmem S1x128x1024 .bf16) (harg3 : arg3.IsWhole) (arg4 : Memref sig .tc .vmem S1x128x1024 .bf16) (harg4 : arg4.IsWhole) (arg5 : Memref sig .tc .vmem S1x16384x128 .bf16) (harg5 : arg5.IsWhole) (arg6 : Memref sig .tc .vmem S1x16384x128 .bf16) (harg6 : arg6.IsWhole) (arg7 : Memref sig .tc .vmem S1x144x16384 .bf16) (harg7 : arg7.IsWhole) (arg8 : Memref sig .tc .vmem S1x144x16384 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S256x1 .f32) (harg13 : arg13.IsWhole) (arg14 : Memref sig .tc .vmem S1024x256 .bf16) (harg14 : arg14.IsWhole) (arg15 : Memref sig .tc .vmem S8x272x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) :
    cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23
      = whole ⟨arg3, arg4, arg5, arg6, arg7, arg8, arg9, arg10, arg11, arg12, arg13, arg14, harg14, arg15, arg16, arg17, arg18, arg19, arg20, arg21, arg22, arg23⟩ i  := by
  unfold whole loadQs loadQ prologue scores4 scores3 scores2 scores1 soft0 scoreStep
  repeat (refine congrArg (Prog.op _) (funext fun _ => ?_))
  dsimp only [Prog.bind_ret, pure_bind, Prog.bind, Prog.lift]
  refine seq_open (F := F) ?_
  refine seq_congr (F := F) ?_ ?_
  · refine congrArg _ (funext fun k => funext fun m => ?_)
    rcases m with ⟨m0, m1, m2, m3, m4, m5, m6, m7, c⟩
    unfold body1 round scores4 softN scoreStep
    repeat (refine congrArg (Prog.op _) (funext fun _ => ?_))
    exact rfl
  rintro ⟨m0, m1, m2, m3, m4, m5, m6, m7, c⟩
  dsimp only [Prog.bind_ret, pure_bind, Prog.bind, Prog.lift]
  refine seq_open (F := F) ?_
  refine seq_skip (F := F) _ _ _ _ (trips2 i) ?_
  dsimp only [Prog.bind_ret, pure_bind, Prog.bind, Prog.lift]
  refine seq_open (F := F) ?_
  refine seq_congr (F := F) ?_ ?_
  · refine congrArg _ (funext fun k => funext fun m => ?_)
    rcases m with ⟨m0, m1, m2, m3, m4, m5, m6, m7, c⟩
    unfold body3 round scores4 softN scoreStep
    repeat (refine congrArg (Prog.op _) (funext fun _ => ?_))
    exact rfl
  rintro ⟨m0, m1, m2, m3, m4, m5, m6, m7, c⟩
  dsimp only [Prog.bind_ret, pure_bind, Prog.bind, Prog.lift]
  refine seq_open (F := F) ?_
  refine seq_skip (F := F) _ _ _ _ (trips4 i) ?_
  dsimp only [Prog.bind_ret, pure_bind, Prog.bind, Prog.lift]
  refine seq_open (F := F) ?_
  refine seq_congr (F := F) ?_ ?_
  · refine congrArg _ (funext fun k => funext fun m => ?_)
    rcases m with ⟨m0, m1, m2, m3, m4, m5, m6, m7, c⟩
    unfold body5 round scores4 softN scoreStep
    repeat (refine congrArg (Prog.op _) (funext fun _ => ?_))
    exact rfl
  rintro ⟨m0, m1, m2, m3, m4, m5, m6, m7, c⟩
  dsimp only [Prog.bind_ret, pure_bind, Prog.bind, Prog.lift]
  refine seq_open (F := F) ?_
  refine seq_skip (F := F) _ _ _ _ (trips6 i) ?_
  unfold closing loadLam closeStep
  repeat (refine congrArg (Prog.op _) (funext fun _ => ?_))
  exact rfl

end Cert.KernelIdeal.Hand
-- ==== Proof.Frame.lean ====
/- The kernel's run: what each grid point leaves, the body's obligation, the frame. -/
module

public import proofs.«01_k».proof.Proof.Body
public import proofs.«01_k».proof.Proof.ProgEq
public import proofs.«01_k».proof.Proof.Gen.KernelIdeal.Frame

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

open Idealize.ShloMosaic.Pipeline (Dat Cfg Window BodyObligation cellOf)
open Cert.KernelIdeal.Gen (V iblk bodyAt0)

variable (m : (ℓ : Loc nD τ sig) → Buf (Elt F) ℓ) (ρ : Dev nD → PrngReg)

/-- The blocks a grid point reads. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The kernel's buffers at a grid point. -/
def bufsAt (t : Fin cfg0.N) : Bufs :=
  ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), hstage0_11 ((cfg0.slots t 11).cast nbuf0_11),
    Memref.whole cc0_scratch0, Memref.whole cc0_scratch1, Memref.whole cc0_scratch2, Memref.whole cc0_scratch3, Memref.whole cc0_scratch4, Memref.whole cc0_scratch5, Memref.whole cc0_scratch6, Memref.whole cc0_scratch7, Memref.whole cc0_scratch8⟩

/-- The proof data: every input window keeps its block, the output window gets the closing blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outF (insAt m c t) (cOf (grid0.coords t))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

theorem defs₀_row (t : Fin cfg0.N) : defs₀ (F := F) .tc cfg0.body (cfg0.bodyArgs t (cfg0.slots t)) = bodyAt0 t := by
  unfold defs₀; rw [Defs.onTc_tc]

theorem scr_eq (c : Dev nD) (t : Fin cfg0.N) :
    (Pipeline.scopedRest (Ix := Unit) (Name := ℕ) (U := UR sig nD τ) (Lvl := ℕ) (Val := Elt F) spec0 c : sProp 𝕄) = ScS (F := F) c (bufsAt t) := by
  rw [Cert.KernelIdeal.Gen.scopedRest0_eq]
  unfold ScS anyS own bufsAt
  simp only [owns_whole]
  rfl

theorem before0 (c : Dev nD) (t : Fin cfg0.N) (d) : (dats m 0 c).before 0 t d = iblk m c 0 t :=
  Cert.KernelIdeal.Gen.before0_0_of m (dats m 0 c) (A_eq m c 0) (fun _ => by dsimp only [dats]) t d
theorem before1 (c : Dev nD) (t : Fin cfg0.N) (d) : (dats m 0 c).before 1 t d = iblk m c 1 t :=
  Cert.KernelIdeal.Gen.before0_1_of m (dats m 0 c) (A_eq m c 1) (fun _ => by dsimp only [dats]) t d
theorem before2 (c : Dev nD) (t : Fin cfg0.N) (d) : (dats m 0 c).before 2 t d = iblk m c 2 t :=
  Cert.KernelIdeal.Gen.before0_2_of m (dats m 0 c) (A_eq m c 2) (fun _ => by dsimp only [dats]) t d
theorem before3 (c : Dev nD) (t : Fin cfg0.N) (d) : (dats m 0 c).before 3 t d = iblk m c 3 t :=
  Cert.KernelIdeal.Gen.before0_3_of m (dats m 0 c) (A_eq m c 3) (fun _ => by dsimp only [dats]) t d
theorem before4 (c : Dev nD) (t : Fin cfg0.N) (d) : (dats m 0 c).before 4 t d = iblk m c 4 t :=
  Cert.KernelIdeal.Gen.before0_4_of m (dats m 0 c) (A_eq m c 4) (fun _ => by dsimp only [dats]) t d
theorem before5 (c : Dev nD) (t : Fin cfg0.N) (d) : (dats m 0 c).before 5 t d = iblk m c 5 t :=
  Cert.KernelIdeal.Gen.before0_5_of m (dats m 0 c) (A_eq m c 5) (fun _ => by dsimp only [dats]) t d
theorem before6 (c : Dev nD) (t : Fin cfg0.N) (d) : (dats m 0 c).before 6 t d = iblk m c 6 t :=
  Cert.KernelIdeal.Gen.before0_6_of m (dats m 0 c) (A_eq m c 6) (fun _ => by dsimp only [dats]) t d
theorem before7 (c : Dev nD) (t : Fin cfg0.N) (d) : (dats m 0 c).before 7 t d = iblk m c 7 t :=
  Cert.KernelIdeal.Gen.before0_7_of m (dats m 0 c) (A_eq m c 7) (fun _ => by dsimp only [dats]) t d
theorem before8 (c : Dev nD) (t : Fin cfg0.N) (d) : (dats m 0 c).before 8 t d = iblk m c 8 t :=
  Cert.KernelIdeal.Gen.before0_8_of m (dats m 0 c) (A_eq m c 8) (fun _ => by dsimp only [dats]) t d
theorem before9 (c : Dev nD) (t : Fin cfg0.N) (d) : (dats m 0 c).before 9 t d = iblk m c 9 t :=
  Cert.KernelIdeal.Gen.before0_9_of m (dats m 0 c) (A_eq m c 9) (fun _ => by dsimp only [dats]) t d
theorem before10 (c : Dev nD) (t : Fin cfg0.N) (d) : (dats m 0 c).before 10 t d = iblk m c 10 t :=
  Cert.KernelIdeal.Gen.before0_10_of m (dats m 0 c) (A_eq m c 10) (fun _ => by dsimp only [dats]) t d

theorem phi_eq (c : Dev nD) (t : Fin cfg0.N) (x) : (dats m 0 c).Φ x = iprop(ScS (F := F) c (bufsAt t) ∗ ∃ r, prngReg c r) := by
  rw [← scr_eq c t]; dsimp only [dats]; rfl

theorem body_eq (t : Fin cfg0.N) : (bodyAt0 t : Pg F PUnit) = whole (bufsAt t) (grid0.coords t) := whole_eq ..

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [body_eq, phi_eq m c t, phi_eq m c t]
  simp only [before0, before1, before2, before3, before4, before5, before6, before7, before8, before9, before10]
  iintro ⟨⟨HS, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (rule_whole c _ (bufsAt t) (insAt m c t) (grid0.coords t)) $$ [H0 H1 H2 H3 H4 H5 H6 H7 H8 H9 H10] HS [H11]
  · unfold InS LS bufsAt insAt
    dsimp only
    isplitl [H0]
    · iexact H0
    isplitl [H1]
    · iexact H1
    isplitl [H2]
    · iexact H2
    isplitl [H3]
    · iexact H3
    isplitl [H4]
    · iexact H4
    isplitl [H5]
    · iexact H5
    isplitr [H10]
    · isplitl [H6]
      · iexact H6
      isplitl [H7]
      · iexact H7
      isplitl [H8]
      · iexact H8
      iexact H9
    · iexact H10
  · iexists _
    iexact H11
  iintro HI HS H11
  unfold InS LS
  icases HI with ⟨H0, H1, H2, H3, H4, H5, ⟨H6, H7, H8, H9⟩, H10⟩
  isplitl [HS HP]
  · isplitl [HS]
    · iexact HS
    · iexact HP
  isplitl [HO]
  · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

theorem body_obligation (c : Dev nD) : BodyObligation (dats (F := F) m 0 c) (defs₀ (F := F)) Variants.none () Set.univ := fun t => by
  rw [Cert.KernelIdeal.Gen.bigSep_W0, Cert.KernelIdeal.Gen.bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) Cert.KernelIdeal.Gen.launch₀0 defs₀ Variants.none m ρ main
    (hbody := fun c => (body_obligation m c).loose) (hq := fun _ _ _ => rfl)
    (howed := fun _ _ => rfl) (V := V m) (hmain := Cert.KernelIdeal.Gen.hmain m Variants.none) (hA := A_eq m)
    (hΦ := fun _ _ => rfl)

/-- The arguments end as they began. -/
theorem args_eq {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (Cert.KernelIdeal.Gen.V_main_arg0 m c),
    ((h c).2 main_arg1 (Pipeline.mem_restRefs_of main_arg1 (by decide) (by decide))).trans (Cert.KernelIdeal.Gen.V_main_arg1 m c),
    ((h c).2 main_arg2 (Pipeline.mem_restRefs_of main_arg2 (by decide) (by decide))).trans (Cert.KernelIdeal.Gen.V_main_arg2 m c),
    ((h c).2 main_arg3 (Pipeline.mem_restRefs_of main_arg3 (by decide) (by decide))).trans (Cert.KernelIdeal.Gen.V_main_arg3 m c),
    ((h c).2 main_arg4 (Pipeline.mem_restRefs_of main_arg4 (by decide) (by decide))).trans (Cert.KernelIdeal.Gen.V_main_arg4 m c),
    ((h c).2 main_arg5 (Pipeline.mem_restRefs_of main_arg5 (by decide) (by decide))).trans (Cert.KernelIdeal.Gen.V_main_arg5 m c),
    ((h c).2 main_arg6 (Pipeline.mem_restRefs_of main_arg6 (by decide) (by decide))).trans (Cert.KernelIdeal.Gen.V_main_arg6 m c),
    ((h c).2 main_arg7 (Pipeline.mem_restRefs_of main_arg7 (by decide) (by decide))).trans (Cert.KernelIdeal.Gen.V_main_arg7 m c)⟩

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_eq m h.1, h.2⟩) (run_main m ρ)

end Cert.KernelIdeal.Hand
-- ==== Proof.Same.lean ====
/- The program as printed and its idealization have the same text: the frame of one is the frame of the other. -/
module

public import proofs.«01_k».proof.Defs
public import proofs.«01_k».proof.Proof.Gen.Kernel
public import proofs.«01_k».proof.Proof.Frame

@[expose] public section

noncomputable section

namespace Cert.KernelIdeal.Hand

open Idealize.ShloMosaic Idealize.SL.Sem

set_option maxHeartbeats 0 in
theorem body_same : (Cert.KernelIdeal.cc0_diff_attn (F := Bits)) = Cert.Kernel.cc0_diff_attn (F := Bits) := rfl

set_option maxHeartbeats 0 in
theorem defs₀_same : (Cert.KernelIdeal.defs₀ (F := Bits)) = Cert.Kernel.defs₀ (F := Bits) := by
  unfold Cert.Kernel.defs₀ Cert.KernelIdeal.defs₀
  refine congrArg Defs.onTc (funext fun l => funext fun a => ?_)
  match l, a with
  | ⟨0, _⟩, (t, s) =>
    dsimp only
    rw [body_same]
    rfl
  | ⟨n + 1, h⟩, _ => exact absurd h (Nat.not_lt.2 (Nat.le_add_left _ _))

set_option maxHeartbeats 0 in
theorem defs_same : (Cert.KernelIdeal.defs (F := Bits)) = Cert.Kernel.defs (F := Bits) :=
  congrArg (Idealize.ShloMosaic.Pipeline.defs Cert.KernelIdeal.pcfgs) defs₀_same

set_option maxHeartbeats 0 in
theorem main_same : (Cert.KernelIdeal.main (F := Bits)) = Cert.Kernel.main (F := Bits) := rfl

set_option maxHeartbeats 0 in
theorem frame_printed : Cert.quiescent_Kernel := fun m ρ _ => by
  have h := frame (F := Bits) m ρ
  rw [defs_same, main_same] at h
  exact h

end Cert.KernelIdeal.Hand

end
-- ==== Proof.RefRun.lean ====
/- The reference's run: its result as a composition of whole-array operations. -/
module

public import proofs.«01_k».proof.Proof.Gen.ReferenceIdeal
public import Idealize.ShloMosaic.Lib.Claim
public import Idealize.ShloMosaic.PureOps.Ideal

@[expose] public section

noncomputable section

namespace Cert.ReferenceIdeal.Hand

open Cert.ReferenceIdeal
open Idealize.ShloMosaic Idealize.SL.Sem
open Facts₀ Facts

variable {F : FTy → Type} [FloatOps F]

/-- One of the two exponentials of the mixing scalar. -/
def expR (a b : FVec F S1x128 .f32) : FVec F S_ .f32 :=
  Host.exp (Host.reduceAdd (mulf (shapeCast S128 a shapeCasts_S1x128_S128) (shapeCast S128 b shapeCasts_S1x128_S128))
    (constant S_ .f32 0x00000000#32) reducesTo_S128_S_d0 h_S_)

/-- The mixing scalar. -/
def lamR (a b c d : FVec F S1x128 .f32) : FVec F S_ .f32 :=
  addf (subf (expR a b) (expR c d)) (constant S_ .f32 0x3E4CCCCD#32)

/-- The scaled scores. -/
def scoreR (q k : FVec F S2x4x2x16384x128 .f32) : FVec F S2x4x2x16384x16384 .f32 :=
  Host.divf (Host.dotGeneral dot_S2x4x2x16384x128_S2x4x2x16384x128_S2x4x2x16384x16384_4_4_3_3_012_012 none q k)
    (broadcastInDim S2x4x2x16384x16384 ![] bcast_S_S2x4x2x16384x16384 (Host.sqrt (constant S_ .f32 0x43000000#32)))

/-- Where a key is not after the query. -/
def causalR : IVec S16384x16384 1 :=
  cmpi .sle
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The scores with later keys at minus infinity. -/
def maskedR (x : FVec F S2x4x2x16384x16384 .f32) : FVec F S2x4x2x16384x16384 .f32 :=
  select (broadcastInDim S2x4x2x16384x16384 ![3, 4] bcast_S16384x16384_S2x4x2x16384x16384_3_4 causalR) x
    (broadcastInDim S2x4x2x16384x16384 ![] bcast_S_S2x4x2x16384x16384 (constant S_ .f32 0xFF800000#32))

/-- The row maxima. -/
def maxR (x : FVec F S2x4x2x16384x16384 .f32) : FVec F S2x4x2x16384 .f32 :=
  maximumf (broadcastInDim S2x4x2x16384 ![] bcast_S_S2x4x2x16384 (constant S_ .f32 0xFF800000#32))
    (Host.reduce FloatOps.maximumf x (constant S_ .f32 0xFF800000#32) reducesTo_S2x4x2x16384x16384_S2x4x2x16384_d4 h_S_)

/-- A row vector along the keys. -/
def rowsR (x : FVec F S2x4x2x16384 .f32) : FVec F S2x4x2x16384x16384 .f32 :=
  broadcastInDim S2x4x2x16384x16384 ![0, 1, 2, 3, 4] bcast_S2x4x2x16384x1_S2x4x2x16384x16384_0_1_2_3_4
    (broadcastInDim S2x4x2x16384x1 ![0, 1, 2, 3] bcast_S2x4x2x16384_S2x4x2x16384x1_0_1_2_3 x)

/-- The exponentials before the division. -/
def numR (x : FVec F S2x4x2x16384x16384 .f32) : FVec F S2x4x2x16384x16384 .f32 := Host.exp (subf x (rowsR (maxR x)))

/-- The softmax along the keys. -/
def softR (x : FVec F S2x4x2x16384x16384 .f32) : FVec F S2x4x2x16384x16384 .f32 :=
  Host.divf (numR x)
    (rowsR (Host.reduceAdd (numR x) (constant S_ .f32 0x00000000#32) reducesTo_S2x4x2x16384x16384_S2x4x2x16384_d4 h_S_))

/-- The difference of the two maps. -/
def attnR (lam : FVec F S_ .f32) (p : FVec F S2x4x2x16384x16384 .f32) : FVec F S2x4x16384x16384 .f32 :=
  subf
    (shapeCast S2x4x16384x16384 (extractStridedSlice S2x4x1x16384x16384 ![0, 0, 0, 0, 0] p slices_S2x4x2x16384x16384_S2x4x1x16384x16384_0_0_0_0_0)
      shapeCasts_S2x4x1x16384x16384_S2x4x16384x16384)
    (mulf (broadcastInDim S2x4x16384x16384 ![] bcast_S_S2x4x16384x16384 lam)
      (shapeCast S2x4x16384x16384 (extractStridedSlice S2x4x1x16384x16384 ![0, 0, 1, 0, 0] p slices_S2x4x2x16384x16384_S2x4x1x16384x16384_0_0_1_0_0)
        shapeCasts_S2x4x1x16384x16384_S2x4x16384x16384))

/-- The values mixed. -/
def mixR (a : FVec F S2x4x16384x16384 .f32) (v : FVec F S2x4x16384x256 .f32) : FVec F S2x4x16384x256 .f32 :=
  Host.dotGeneral dot_S2x4x16384x16384_S2x4x16384x256_S2x4x16384x256_3_2_2_3_01_01 none a v

/-- The normalized, weighted and scaled rows. -/
def normR (o : FVec F S2x4x16384x256 .f32) (g : FVec F S1x256 .f32) : FVec F S2x4x16384x256 .f32 :=
  mulf
    (mulf
      (mulf o
        (broadcastInDim S2x4x16384x256 ![0, 1, 2, 3] bcast_S2x4x16384x1_S2x4x16384x256_0_1_2_3
          (Host.rsqrt
            (addf
              (Host.divf
                (broadcastInDim S2x4x16384x1 ![0, 1, 2] bcast_S2x4x16384_S2x4x16384x1_0_1_2
                  (Host.reduceAdd (mulf o o) (constant S_ .f32 0x00000000#32) reducesTo_S2x4x16384x256_S2x4x16384_d3 h_S_))
                (broadcastInDim S2x4x16384x1 ![] bcast_S_S2x4x16384x1 (constant S_ .f32 0x43800000#32)))
              (broadcastInDim S2x4x16384x1 ![] bcast_S_S2x4x16384x1 (constant S_ .f32 0x358637BD#32))))))
      (broadcastInDim S2x4x16384x256 ![0, 1, 2, 3] bcast_S1x1x1x256_S2x4x16384x256_0_1_2_3
        (broadcastInDim S1x1x1x256 ![3] bcast_S256_S1x1x1x256_3 (shapeCast S256 g shapeCasts_S1x256_S256))))
    (broadcastInDim S2x4x16384x256 ![] bcast_S_S2x4x16384x256 (constant S_ .f32 0x3F4CCCCD#32))

/-- The rows in the result's layout. -/
def layR (o : FVec F S2x4x16384x256 .f32) : FVec F S32768x1024 .bf16 :=
  truncf .bf16 (shapeCast S32768x1024 (transpose S2x16384x4x256 [0, 2, 1, 3] o transposes_S2x4x16384x256_S2x16384x4x256_0_2_1_3)
    shapeCasts_S2x16384x4x256_S32768x1024) bitsLt_bf16_f32

/-- The reference's result. -/
def refOut (q k : FVec F S2x4x2x16384x128 .f32) (v : FVec F S2x4x16384x256 .f32) (a b c d : FVec F S1x128 .f32) (g : FVec F S1x256 .f32) :
    FVec F S32768x1024 .bf16 :=
  layR (normR (mixR (attnR (lamR a b c d) (softR (maskedR (scoreR q k)))) v) g)

set_option maxHeartbeats 4000000 in
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v60)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (StableHlo.run_hlo _ _ (by hlo_seq) (by decide) (by decide) (by simp)
      (by intro _ h; (repeat (cases h with | head => rfl | tail _ h => ?_)); exact nomatch h) m ρ) ?_
  intro r h c
  refine ⟨(h c main_v60).trans ?_, (h c main_arg0).trans ?_, (h c main_arg1).trans ?_, (h c main_arg2).trans ?_, (h c main_arg3).trans ?_,
    (h c main_arg4).trans ?_, (h c main_arg5).trans ?_, (h c main_arg6).trans ?_, (h c main_arg7).trans ?_⟩
  · after_results_simp
    rfl
  all_goals (after_results_simp; try rfl)

end Cert.ReferenceIdeal.Hand
-- ==== Proof.Read.lean ====
/- The pieces of a grid point's work read at one element, in exact arithmetic. -/
module

public import proofs.«01_k».proof.Proof.Pure
public import Idealize.ShloMosaic.Lib.Pointwise
public import Idealize.ShloMosaic.Lib.MatmulPlain
public import Idealize.ShloMosaic.Lib.WordCmp

@[expose] public section

noncomputable section

namespace Cert.KernelIdeal.Hand

open Cert.KernelIdeal
open Idealize.ShloMosaic Idealize.SL.Sem
open Facts₀ Facts

theorem ofBits_negInf : Ideal.ofBits .f32 0xFF800000#32 = (⊥ : EReal) := by simp [Ideal.ofBits, Ideal.ieee]

theorem scoreV_apply (k : FVec Ideal S1x256x128 .bf16) (q : FVec Ideal S128x256 .bf16) (x j : Fin 256) :
    scoreV k q (ix2 x j) = ∑ d : Fin 128, k (ix3 (0 : Fin 1) x d) * q (ix2 d j) := by
  pointwise [scoreV]

theorem blkMax_apply (s : FVec Ideal S256x256 .f32) (r : Fin 8) (j : Fin 256) :
    blkMax s (ix2 r j) = Finset.univ.fold max (⊥ : EReal) fun k : Fin 32 => s (ix2 (⟨k.val * 8 + r.val, by omega⟩ : Fin 256) j) := by
  pointwise [blkMax]
  rw [ofBits_negInf]

theorem finMax_apply (s : FVec Ideal S8x256 .f32) (j : Fin 256) :
    finMax s (ix2 (0 : Fin 1) j) = Finset.univ.fold max (⊥ : EReal) fun k : Fin 8 => s (ix2 k j) := by
  pointwise [finMax]
  rw [ofBits_negInf]

theorem masked_apply (s : FVec Ideal S256x256 .f32) (x j : Fin 256) :
    masked s (ix2 x j) = s (ix2 x j) + if x.val ≤ j.val then (0 : EReal) else ⊥ := by
  pointwise [masked, maskV]
  rw [ofBits_negInf]
  have hx := x.isLt
  have hj := j.isLt
  congr 1
  by_cases h : x.val ≤ j.val
  · rw [if_pos h]
    have e : IntOp.cmpi .sle (BitVec.ofNat 32 x.val) (BitVec.ofNat 32 j.val) = 1#1 := by
      rw [WordCmp.cmpi_sle_ofNat (by omega) (by omega)]
      simp [h]
    rw [e]; rfl
  · rw [if_neg h]
    have e : IntOp.cmpi .sle (BitVec.ofNat 32 x.val) (BitVec.ofNat 32 j.val) = 0#1 := by
      rw [WordCmp.cmpi_sle_ofNat (by omega) (by omega)]
      simp [h]
    rw [e]; rfl

theorem pV_apply {w : ℕ} (W : Wid w) (m : FVec Ideal S1x256 .f32) (s : FVec Ideal ⟨2, ![w, 256]⟩ .f32) (x : Fin w) (j : Fin 256) :
    pV W m s (ix2 x j) = Ideal.exp2 (s (ix2 x j) - m (ix2 (0 : Fin 1) j)) := by
  pointwise [pV]
  rfl

/-- The stacked values of `w` keys. -/
def vcat {w : ℕ} (vl : FVec Ideal ⟨3, ![1, 128, w]⟩ .bf16) (vh : FVec Ideal ⟨3, ![1, 144, w]⟩ .bf16) (e : Fin 272) (x : Fin w) : EReal :=
  if h : e.val < 128 then vl (ix3 (0 : Fin 1) ⟨e.val, h⟩ x) else vh (ix3 (0 : Fin 1) ⟨e.val - 128, by omega⟩ x)

theorem updV_apply {w : ℕ} (W : Wid w) (vl : FVec Ideal ⟨3, ![1, 128, w]⟩ .bf16) (vh : FVec Ideal ⟨3, ![1, 144, w]⟩ .bf16)
    (p : FVec Ideal ⟨2, ![w, 256]⟩ .bf16) (e : Fin 272) (j : Fin 256) :
    updV W vl vh p (ix2 e j) = ∑ x : Fin w, vcat vl vh e x * p (ix2 x j) := by
  unfold updV
  refine (Ideal.matmul_plain_apply (M := 272) (K := w) (N := 256) none _ _ _ e j).trans ?_
  have hz : (constant S272x256 .f32 0x00000000#32 : FVec Ideal S272x256 .f32) (ValueIdx.ix2 e j) = 0 := Ideal.ofBits_zero_f32
  rw [hz, zero_add]
  refine Finset.sum_congr rfl fun x _ => ?_
  rw [ix2_eq_valueIdx]
  congr 1
  rw [concatenate_pair_apply]
  unfold vcat
  by_cases h : e.val < 128
  · rw [dif_pos h]
    refine (dif_pos h).trans (shapeCast_apply vl W.c1 _ _ ?_)
    rw [Shape.rowMajor_val_three, Shape.rowMajor_val_two]
    show (0 * 128 + e.val) * w + x.val = e.val * w + x.val
    rw [Nat.zero_mul, Nat.zero_add]
  · rw [dif_neg h]
    refine (dif_neg h).trans (shapeCast_apply vh W.c2 _ _ ?_)
    rw [Shape.rowMajor_val_three, Shape.rowMajor_val_two]
    show (0 * 144 + (e.val - 128)) * w + x.val = (e.val - 128) * w + x.val
    rw [Nat.zero_mul, Nat.zero_add]

theorem accInit_apply {w : ℕ} (W : Wid w) (m : FVec Ideal S1x256 .f32) (s : FVec Ideal ⟨2, ![w, 256]⟩ .f32) (vl : FVec Ideal ⟨3, ![1, 128, w]⟩ .bf16)
    (vh : FVec Ideal ⟨3, ![1, 144, w]⟩ .bf16) (e : Fin 272) (j : Fin 256) :
    accInit W m s vl vh (ix3 (0 : Fin 1) e j) = updV W vl vh (pV W m s) (ix2 e j) := by
  pointwise [accInit]

theorem accNext_apply (m mc : FVec Ideal S1x256 .f32) (s : FVec Ideal S1024x256 .f32) (vl : FVec Ideal S1x128x1024 .bf16)
    (vh : FVec Ideal S1x144x1024 .bf16) (a : FVec Ideal S1x272x256 .f32) (e : Fin 272) (j : Fin 256) :
    accNext m mc s vl vh a (ix3 (0 : Fin 1) e j)
      = Ideal.exp2 (m (ix2 (0 : Fin 1) j) - max (m (ix2 (0 : Fin 1) j)) (mc (ix2 (0 : Fin 1) j))) * a (ix3 (0 : Fin 1) e j)
        + updV wid1024 vl vh (pV wid1024 (maximumf m mc) s) (ix2 e j) := by
  pointwise [accNext]
  rfl

/-- The difference's weight, read. -/
theorem lamV_apply (a b c d : FVec Ideal S1x128 .f32) :
    lamV a b c d (ix2 (0 : Fin 1) (0 : Fin 1))
      = Ideal.exp (∑ k : Fin 128, a (ix2 (0 : Fin 1) k) * b (ix2 (0 : Fin 1) k)) - Ideal.exp (∑ k : Fin 128, c (ix2 (0 : Fin 1) k) * d (ix2 (0 : Fin 1) k))
        + Ideal.ofBits .f32 0x3E4CCCCD#32 := by
  pointwise [lamV]

theorem diffV_apply (lam : FVec Ideal S1x1 .f32) (a b : FVec Ideal S1x272x256 .f32) (e j : Fin 256) :
    diffV lam a b (ix2 e j)
      = a (ix3 (0 : Fin 1) (⟨e.val, by omega⟩ : Fin 272) j) * Ideal.div (Ideal.ofBits .f32 0x3F800000#32) (a (ix3 (0 : Fin 1) (256 : Fin 272) j))
        - b (ix3 (0 : Fin 1) (⟨e.val, by omega⟩ : Fin 272) j) * Ideal.div (lam (ix2 (0 : Fin 1) (0 : Fin 1))) (b (ix3 (0 : Fin 1) (256 : Fin 272) j)) := by
  pointwise [diffV]

theorem outV_apply (o : FVec Ideal S256x256 .f32) (g : FVec Ideal S256x1 .f32) (j e : Fin 256) :
    outV o g (ix2 j e)
      = o (ix2 e j) * Ideal.rsqrt (Ideal.div (∑ k : Fin 256, o (ix2 k j) * o (ix2 k j)) (Ideal.ofBits .f32 0x43800000#32) + Ideal.ofBits .f32 0x358637BD#32)
          * g (ix2 e (0 : Fin 1)) * Ideal.ofBits .f32 0x3F4CCCCD#32 := by
  pointwise [outV]

end Cert.KernelIdeal.Hand
-- ==== Proof.Soft.lean ====
/- The softmax average over the keys up to a query, in the reals, and the normalization of a row. -/
module

public import Idealize.ShloMosaic.PureOps.Ideal
public import Idealize.ShloMosaic.Lib.Pointwise

@[expose] public section

noncomputable section

namespace Cert.KernelIdeal.Hand

open Idealize.ShloMosaic

/-- A real sum, as a sum of extended reals. -/
theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a key's score, zero after the query. -/
def expTo (x : ℕ → ℝ) (q k : ℕ) : ℝ := if k ≤ q then Real.exp (x k) else 0

/-- The softmax average of `v` over the keys up to the query. -/
def soft (x : ℕ → ℝ) (q : ℕ) (v : ℕ → ℝ) : ℝ :=
  (∑ k ∈ Finset.range 16384, v k * expTo x q k) / ∑ k ∈ Finset.range 16384, expTo x q k

theorem expTo_sum_pos (x : ℕ → ℝ) (q : ℕ) : 0 < ∑ k ∈ Finset.range 16384, expTo x q k := by
  refine Finset.sum_pos' (fun k _ => ?_) ⟨0, Finset.mem_range.2 (by norm_num), ?_⟩
  · unfold expTo
    split
    · exact (Real.exp_pos _).le
    · exact le_rfl
  · unfold expTo
    rw [if_pos (Nat.zero_le _)]
    exact Real.exp_pos _

section
variable {x : ℕ → ℝ} {q : ℕ} {f : ℕ → ℝ} {c : ℝ} (hc : 0 < c) (hf : ∀ k, f k = expTo x q k * c)
include hc hf

theorem scaled_sum_pos : 0 < ∑ k ∈ Finset.range 16384, f k := by
  simp only [hf]
  rw [← Finset.sum_mul]
  exact mul_pos (expTo_sum_pos x q) hc

/-- The average does not change when every weight is multiplied by one positive number. -/
theorem soft_of_scaled (v : ℕ → ℝ) :
    (∑ k ∈ Finset.range 16384, v k * f k) / ∑ k ∈ Finset.range 16384, f k = soft x q v := by
  unfold soft
  simp only [hf, ← mul_assoc]
  rw [← Finset.sum_mul, ← Finset.sum_mul, mul_div_mul_right _ _ hc.ne']

end

/-- One element of a row, normalized, weighted and scaled. -/
def rmsAt (o g : Fin 256 → EReal) (e : Fin 256) : EReal :=
  o e * Ideal.rsqrt (Ideal.div (∑ k, o k * o k) (Ideal.ofBits .f32 0x43800000#32) + Ideal.ofBits .f32 0x358637BD#32) * g e
    * Ideal.ofBits .f32 0x3F4CCCCD#32

/-- The difference's weight. -/
def lamAt (a b c d : Fin 128 → EReal) : EReal :=
  Ideal.exp (∑ k, a k * b k) - Ideal.exp (∑ k, c k * d k) + Ideal.ofBits .f32 0x3E4CCCCD#32

/-! ## The constants -/

theorem ofBits_128 : Ideal.ofBits .f32 0x43000000#32 = ((128 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem sqrt_128 : Ideal.sqrt (Ideal.ofBits .f32 0x43000000#32) = ((Real.sqrt 128 : ℝ) : EReal) := by
  rw [ofBits_128, Ideal.sqrt_coe, if_neg (by norm_num)]

theorem log_two : Ideal.log (Ideal.ofBits .f32 0x40000000#32) = ((Real.log 2 : ℝ) : EReal) := by
  rw [ofBits_two, Ideal.log_coe, if_neg (by norm_num)]

theorem ofBits_fifth : ∃ r : ℝ, Ideal.ofBits .f32 0x3E4CCCCD#32 = (r : EReal) := by
  refine ⟨13421773 / 67108864, ?_⟩
  simp [Ideal.ofBits, Ideal.ieee]
  rw [← EReal.coe_mul]
  norm_num

/-! ## The layer's entries in the reals -/

section Entries
variable (q k : (⟨5, ![2, 4, 2, 16384, 128]⟩ : Shape).Idx → ℝ) (v : (⟨4, ![2, 4, 16384, 256]⟩ : Shape).Idx → ℝ)

/-- A query or a key by its position. -/
def at5 (b : Fin 2) (h : Fin 4) (u : Fin 2) (n : ℕ) (d : Fin 128) : ℝ := if hn : n < 16384 then q (ix5 b h u (⟨n, hn⟩ : Fin 16384) d) else 0

/-- A scaled score. -/
def scoreAt (b : Fin 2) (h : Fin 4) (u : Fin 2) (n k' : ℕ) : ℝ := (∑ d, at5 q b h u n d * at5 k b h u k' d) / Real.sqrt 128

/-- A value by its position. -/
def valAt (b : Fin 2) (h : Fin 4) (e : Fin 256) (n : ℕ) : ℝ := if hn : n < 16384 then v (ix4 b h (⟨n, hn⟩ : Fin 16384) e) else 0

/-- The difference of the two averages. -/
def diffAt (l : ℝ) (b : Fin 2) (h : Fin 4) (n : ℕ) (e : Fin 256) : ℝ :=
  soft (scoreAt q k b h 0 n) n (valAt v b h e) - l * soft (scoreAt q k b h 1 n) n (valAt v b h e)

theorem at5_fin (b : Fin 2) (h : Fin 4) (u : Fin 2) (n : Fin 16384) (d : Fin 128) : at5 q b h u n.val d = q (ix5 b h u n d) := dif_pos n.isLt
theorem valAt_fin (b : Fin 2) (h : Fin 4) (e : Fin 256) (n : Fin 16384) : valAt v b h e n.val = v (ix4 b h n e) := dif_pos n.isLt

end Entries

end Cert.KernelIdeal.Hand
-- ==== Proof.Chain.lean ====
/- What a chain holds, lane by lane, when its scores and values are real: a real maximum, and the sums of the
   values weighted by two to the power of the scores less that maximum, over the keys seen so far. -/
module

public import proofs.«01_k».proof.Proof.Read
public import proofs.«01_k».proof.Proof.Soft

@[expose] public section

noncomputable section

namespace Cert.KernelIdeal.Hand

open Cert.KernelIdeal
open Idealize.ShloMosaic Idealize.SL.Sem
open Facts₀ Facts

/-- Two runs of terms, and zeros after them. -/
theorem all_keys (f : ℕ → ℝ) (a b N : ℕ) (h : a + b ≤ N) (hz : ∀ k, a + b ≤ k → f k = 0) :
    ∑ k ∈ Finset.range a, f k + ∑ x ∈ Finset.range b, f (a + x) = ∑ k ∈ Finset.range N, f k := by
  obtain ⟨d, rfl⟩ := Nat.exists_eq_add_of_le h
  rw [Finset.sum_range_add _ (a + b), Finset.sum_range_add _ a, Finset.sum_eq_zero (s := Finset.range d) (fun x _ => hz _ (by omega)), add_zero]

/-! ## Maxima -/

theorem blkMax_lt (s : FVec Ideal S256x256 .f32) (j : Fin 256) (h : ∀ x : Fin 256, s (ix2 x j) < (⊤ : EReal)) (r : Fin 8) :
    blkMax s (ix2 r j) < (⊤ : EReal) := by
  rw [blkMax_apply, Finset.fold_max_lt]
  exact ⟨bot_lt_top, fun x _ => h _⟩

theorem lt_blkMax (s : FVec Ideal S256x256 .f32) (j : Fin 256) (h : (⊥ : EReal) < s (ix2 (0 : Fin 256) j)) :
    (⊥ : EReal) < blkMax s (ix2 (0 : Fin 8) j) := by
  rw [blkMax_apply, Finset.lt_fold_max]
  exact .inr ⟨0, Finset.mem_univ _, h⟩

theorem finMax_real (s : FVec Ideal S8x256 .f32) (j : Fin 256) (h : ∀ r : Fin 8, s (ix2 r j) < (⊤ : EReal))
    (h0 : (⊥ : EReal) < s (ix2 (0 : Fin 8) j)) : ∃ μ : ℝ, finMax s (ix2 (0 : Fin 1) j) = (μ : EReal) := by
  have h1 : finMax s (ix2 (0 : Fin 1) j) < (⊤ : EReal) := by
    rw [finMax_apply, Finset.fold_max_lt]
    exact ⟨bot_lt_top, fun x _ => h _⟩
  have h2 : (⊥ : EReal) < finMax s (ix2 (0 : Fin 1) j) := by
    rw [finMax_apply, Finset.lt_fold_max]
    exact .inr ⟨0, Finset.mem_univ _, h0⟩
  exact ⟨_, (EReal.coe_toReal h1.ne h2.ne').symm⟩

theorem max_at (a b : FVec Ideal S8x256 .f32) (i : S8x256.Idx) : maximumf a b i = max (a i : EReal) (b i) := rfl

/-- A maximum of blocks that is real wherever no entry is `+∞` and the first key's is real. -/
def RealMax (mx : (Fin 4 → FVec Ideal S256x256 .f32) → FVec Ideal S1x256 .f32) : Prop :=
  ∀ (b : Fin 4 → FVec Ideal S256x256 .f32) (j : Fin 256), (∀ r (x : Fin 256), b r (ix2 x j) < (⊤ : EReal)) →
    (⊥ : EReal) < b 0 (ix2 (0 : Fin 256) j) → ∃ μ : ℝ, mx b (ix2 (0 : Fin 1) j) = (μ : EReal)

theorem real1 : RealMax max1 := fun b j h h0 => finMax_real _ _ (fun r => blkMax_lt _ _ (h 0) r) (lt_blkMax _ _ h0)
theorem real2 : RealMax max2 := fun b j h h0 => finMax_real _ _
  (fun r => by rw [max_at]; exact max_lt (blkMax_lt _ _ (h 0) r) (blkMax_lt _ _ (h 1) r))
  (by rw [max_at]; exact lt_max_of_lt_left (lt_blkMax _ _ h0))
theorem real3 : RealMax max3 := fun b j h h0 => finMax_real _ _
  (fun r => by rw [max_at, max_at]; exact max_lt (max_lt (blkMax_lt _ _ (h 0) r) (blkMax_lt _ _ (h 1) r)) (blkMax_lt _ _ (h 2) r))
  (by rw [max_at, max_at]; exact lt_max_of_lt_left (lt_max_of_lt_left (lt_blkMax _ _ h0)))
theorem real4 : RealMax max4 := fun b j h h0 => finMax_real _ _
  (fun r => by
    rw [max_at, max_at, max_at]
    exact max_lt (max_lt (max_lt (blkMax_lt _ _ (h 0) r) (blkMax_lt _ _ (h 1) r)) (blkMax_lt _ _ (h 2) r)) (blkMax_lt _ _ (h 3) r))
  (by rw [max_at, max_at, max_at]; exact lt_max_of_lt_left (lt_max_of_lt_left (lt_max_of_lt_left (lt_blkMax _ _ h0))))

/-! ## Weights -/

/-- A key's weight for the query at `q`, below the maximum `μ`. -/
def wt (s : ℕ → ℝ) (q : ℕ) (μ : ℝ) (k : ℕ) : ℝ := if k ≤ q then (2 : ℝ) ^ (s k - μ) else 0

theorem exp2_sub (a μ : ℝ) : Ideal.exp2 ((a : EReal) - (μ : EReal)) = (((2 : ℝ) ^ (a - μ) : ℝ) : EReal) := by
  rw [← EReal.coe_sub, Ideal.exp2_coe]; rfl

theorem exp2_bot_sub (μ : ℝ) : Ideal.exp2 ((⊥ : EReal) - (μ : EReal)) = ((0 : ℝ) : EReal) := by
  rw [EReal.bot_sub]; rfl

/-- Lowering a weight to a higher maximum. -/
theorem wt_lower (s : ℕ → ℝ) (q : ℕ) (μ μ' : ℝ) (k : ℕ) : (2 : ℝ) ^ (μ - μ') * wt s q μ k = wt s q μ' k := by
  unfold wt
  split
  · rw [← Real.rpow_add (by norm_num)]; congr 1; ring
  · simp

theorem stk_at {w : ℕ} (b : Fin 4 → S256x256.Idx → EReal) (x : Fin w) (j : Fin 256) (r : Fin 4) (h : x.val / 256 = r.val) :
    stk w b (ix2 x j) = b r (ix2 (⟨x.val % 256, Nat.mod_lt _ (by decide)⟩ : Fin 256) j) := by
  have e : (⟨x.val / 256 % 4, Nat.mod_lt _ (by decide)⟩ : Fin 4) = r := Fin.ext (by show x.val / 256 % 4 = r.val; omega)
  show b (⟨x.val / 256 % 4, Nat.mod_lt _ (by decide)⟩ : Fin 4) (ValueIdx.ix2 (⟨x.val % 256, Nat.mod_lt _ (by decide)⟩ : Fin 256) j) = _
  rw [e, ix2_eq_valueIdx]

section Lane
variable (I : Ins Ideal) (c : ℕ) (n : Fin 8) (j : Fin 256) (s : ℕ → ℝ) (v : Fin 272 → ℕ → ℝ)

/-- The chain's scores of lane `j` are the reals `s`. -/
def RealScores : Prop := ∀ t < 16, ∀ (r : Fin 4) (x : Fin 256), blk I n t r (ix2 x j) = ((s (1024 * t + 256 * r.val + x.val) : ℝ) : EReal)

/-- The stacked values are the reals `v`. -/
def RealValues : Prop := ∀ (e : Fin 272) (k : Fin 16384),
  (if h : e.val < 128 then I.vl (ix3 (0 : Fin 1) (⟨e.val, by omega⟩ : Fin 144) k) else I.vh (ix3 (0 : Fin 1) (⟨e.val - 128, by omega⟩ : Fin 144) k))
    = ((v e k.val : ℝ) : EReal)

variable {I c n j s v}

theorem vcat_at (hv : RealValues I v) {w o : ℕ} (h : o + w ≤ 16384) (e : Fin 272) (x : Fin w) :
    vcat (vlAt I.vl w o) (vhAt I.vh w o) e x = ((v e (o + x.val) : ℝ) : EReal) := by
  have hx := x.isLt
  have := hv e ⟨o + x.val, by omega⟩
  rw [← this]
  unfold vcat vlAt vhAt
  rw [dif_pos h, dif_pos h]
  split
  · refine congrArg I.vl (funext fun a => Fin.ext ?_)
    fin_cases a
    · rfl
    · show 0 + 1 * e.val = e.val; omega
    · show o + 1 * x.val = o + x.val; omega
  · refine congrArg I.vh (funext fun a => Fin.ext ?_)
    fin_cases a
    · rfl
    · show 0 + 1 * (e.val - 128) = e.val - 128; omega
    · show o + 1 * x.val = o + x.val; omega

/-- The weighted sum of `w` keys' values, from weights that are real. -/
theorem updV_at (hv : RealValues I v) {w o : ℕ} (W : Wid w) (h : o + w ≤ 16384) (p : FVec Ideal ⟨2, ![w, 256]⟩ .bf16) (f : ℕ → ℝ)
    (hp : ∀ x : Fin w, p (ix2 x j) = ((f (o + x.val) : ℝ) : EReal)) (e : Fin 272) :
    updV W (vlAt I.vl w o) (vhAt I.vh w o) p (ix2 e j) = ((∑ x ∈ Finset.range w, v e (o + x) * f (o + x) : ℝ) : EReal) := by
  rw [updV_apply, ← Fin.sum_univ_eq_sum_range (fun x => v e (o + x) * f (o + x)), real_sum]
  refine Finset.sum_congr rfl fun x _ => ?_
  rw [vcat_at hv h, hp, EReal.coe_mul]

/-- An entry of the own chunk's masked blocks. -/
theorem maskAt_at (hs : RealScores I n j s) (hc : c < 16) (l r : Fin 4) (h : r ≤ l) (x : Fin 256) :
    maskAt l (blk I n c) r (ix2 x j)
      = if 1024 * c + 256 * r.val + x.val ≤ 1024 * c + 256 * l.val + j.val then ((s (1024 * c + 256 * r.val + x.val) : ℝ) : EReal) else ⊥ := by
  have hx := x.isLt
  have hj := j.isLt
  unfold maskAt
  by_cases e : r = l
  · rw [if_pos e, masked_apply, hs c hc r x]
    subst e
    by_cases hxj : x.val ≤ j.val
    · rw [if_pos hxj, if_pos (by omega), add_zero]
    · rw [if_neg hxj, if_neg (by omega), EReal.add_bot]
  · have : r.val < l.val := lt_of_le_of_ne h (fun h => e (Fin.ext h))
    rw [if_neg e, if_pos (by omega), hs c hc r x]

theorem maskAt_lt (hs : RealScores I n j s) (hc : c < 16) (l r : Fin 4) (x : Fin 256) : maskAt l (blk I n c) r (ix2 x j) < (⊤ : EReal) := by
  unfold maskAt
  split
  · rw [masked_apply, hs c hc r x]
    split
    · rw [add_zero]; exact EReal.coe_lt_top _
    · rw [EReal.add_bot]; exact bot_lt_top
  · rw [hs c hc r x]; exact EReal.coe_lt_top _

/-- A chain after its own chunk. -/
theorem ch0_at (hs : RealScores I n j s) (hv : RealValues I v) (hc : c < 16) {w : ℕ} (W : Wid w)
    {mx : (Fin 4 → FVec Ideal S256x256 .f32) → FVec Ideal S1x256 .f32} (hmx : RealMax mx) (l : Fin 4) (hw : w = 256 * l.val + 256) :
    ∃ μ : ℝ, (ch0 I c W mx l n).m (ix2 (0 : Fin 1) j) = (μ : EReal) ∧ ∀ e : Fin 272, (ch0 I c W mx l n).a (ix3 (0 : Fin 1) e j)
      = ((∑ x ∈ Finset.range w, v e (1024 * c + x) * wt s (1024 * c + 256 * l.val + j.val) μ (1024 * c + x) : ℝ) : EReal) := by
  have hl := l.isLt
  have hj := j.isLt
  have h0 : (⊥ : EReal) < maskAt l (blk I n c) 0 (ix2 (0 : Fin 256) j) := by
    rw [maskAt_at hs hc l 0 (Fin.zero_le _), if_pos (by show 1024 * c + 256 * 0 + 0 ≤ _; omega)]
    exact EReal.bot_lt_coe _
  obtain ⟨μ, hμ⟩ := hmx (maskAt l (blk I n c)) j (fun r x => maskAt_lt hs hc l r x) h0
  refine ⟨μ, hμ, fun e => ?_⟩
  unfold ch0
  dsimp only
  rw [accInit_apply]
  refine updV_at hv W (by omega) _ (wt s (1024 * c + 256 * l.val + j.val) μ) (fun x => ?_) e
  have hx := x.isLt
  rw [pV_apply, hμ, stk_at _ x j ⟨x.val / 256, by omega⟩ rfl, maskAt_at hs hc l _ (Fin.mk_le_of_le_val (by omega))]
  dsimp only
  rw [show 1024 * c + 256 * (x.val / 256) + x.val % 256 = 1024 * c + x.val by omega]
  unfold wt
  split
  · rw [exp2_sub]
  · rw [exp2_bot_sub]

/-- The state of a chain of `w` own keys and query `q` after the chunks before `t`. -/
def Holds (c w q : ℕ) (j : Fin 256) (s : ℕ → ℝ) (v : Fin 272 → ℕ → ℝ) (t : ℕ) (z : Ch Ideal) : Prop :=
  ∃ μ : ℝ, z.m (ix2 (0 : Fin 1) j) = (μ : EReal) ∧ ∀ e : Fin 272, z.a (ix3 (0 : Fin 1) e j)
    = ((∑ k ∈ Finset.range (1024 * t), v e k * wt s q μ k + ∑ x ∈ Finset.range w, v e (1024 * c + x) * wt s q μ (1024 * c + x) : ℝ) : EReal)

theorem holds_next (hs : RealScores I n j s) (hv : RealValues I v) (hc : c < 16) {w q t : ℕ} (ht : t < c) (hq : 1024 * c ≤ q) {z : Ch Ideal}
    (h : Holds c w q j s v t z) : Holds c w q j s v (t + 1) (chNext I n t z) := by
  obtain ⟨μ, hm, ha⟩ := h
  obtain ⟨μ₁, h₁⟩ := real4 (blk I n t) j (fun r x => by rw [hs t (by omega) r x]; exact EReal.coe_lt_top _)
    (by rw [hs t (by omega) 0 0]; exact EReal.bot_lt_coe _)
  have hM : (maximumf z.m (max4 (blk I n t)) : FVec Ideal S1x256 .f32) (ix2 (0 : Fin 1) j) = ((max μ μ₁ : ℝ) : EReal) := by
    show max (z.m (ix2 (0 : Fin 1) j) : EReal) (max4 (blk I n t) (ix2 (0 : Fin 1) j)) = _
    rw [hm, h₁]; exact (EReal.coe_strictMono.monotone.map_max).symm
  refine ⟨max μ μ₁, hM, fun e => ?_⟩
  unfold chNext
  dsimp only
  rw [accNext_apply, updV_at (j := j) hv wid1024 (o := 1024 * t) (by omega) _ (wt s q (max μ μ₁)) (fun x => ?_) e, hm, h₁, ha e]
  · rw [show max (μ : EReal) (μ₁ : EReal) = ((max μ μ₁ : ℝ) : EReal) from (EReal.coe_strictMono.monotone.map_max).symm, exp2_sub,
      ← EReal.coe_mul, ← EReal.coe_add]
    congr 1
    rw [show 1024 * (t + 1) = 1024 * t + 1024 by ring, Finset.sum_range_add, mul_add, Finset.mul_sum, Finset.mul_sum]
    have hl : ∀ k, (2 : ℝ) ^ (μ - max μ μ₁) * (v e k * wt s q μ k) = v e k * wt s q (max μ μ₁) k := fun k => by
      rw [mul_left_comm, wt_lower]
    simp only [hl]
    ring
  · have hx := x.isLt
    rw [pV_apply, hM, stk_at _ x j ⟨x.val / 256, by omega⟩ rfl, hs t (by omega)]
    dsimp only
    rw [show 1024 * t + 256 * (x.val / 256) + x.val % 256 = 1024 * t + x.val by omega, exp2_sub]
    unfold wt
    rw [if_pos (by omega)]

/-- A whole chain: every key up to the query, weighted. -/
theorem chain_at (hs : RealScores I n j s) (hv : RealValues I v) (hc : c < 16) (l : ℕ) (hn : l = 3 - n.val / 2) :
    ∃ μ : ℝ, ∀ e : Fin 272, (chain I c n c).a (ix3 (0 : Fin 1) e j)
      = ((∑ k ∈ Finset.range 16384, v e k * wt s (1024 * c + 256 * l + j.val) μ k : ℝ) : EReal) := by
  have hj := j.isLt
  have hi : Holds c (256 * l + 256) (1024 * c + 256 * l + j.val) j s v 0 (chInit I c n) := by
    have aux : ∀ {w : ℕ} (W : Wid w) {mx : (Fin 4 → FVec Ideal S256x256 .f32) → FVec Ideal S1x256 .f32} (hmx : RealMax mx) (l' : Fin 4)
        (hw : w = 256 * l'.val + 256) (hl : l = l'.val),
        Holds c (256 * l + 256) (1024 * c + 256 * l + j.val) j s v 0 (ch0 I c W mx l' n) := by
      intro w W mx hmx l' hw hl
      obtain ⟨μ, h1, h2⟩ := ch0_at hs hv hc W hmx l' hw
      subst hl hw
      exact ⟨μ, h1, fun e => by rw [h2 e]; simp⟩
    have hn8 := n.isLt
    obtain ⟨nv, hnv⟩ := n
    dsimp only at hn
    interval_cases nv
    · exact aux wid1024 real4 3 rfl hn
    · exact aux wid1024 real4 3 rfl hn
    · exact aux wid768 real3 2 rfl hn
    · exact aux wid768 real3 2 rfl hn
    · exact aux wid512 real2 1 rfl hn
    · exact aux wid512 real2 1 rfl hn
    · exact aux wid256 real1 0 rfl hn
    · exact aux wid256 real1 0 rfl hn
  have ht : ∀ t, t ≤ c → Holds c (256 * l + 256) (1024 * c + 256 * l + j.val) j s v t (chain I c n t) := by
    intro t
    induction t with
    | zero => exact fun _ => hi
    | succ t ih => exact fun h => holds_next hs hv hc (by omega) (by omega) (ih (by omega))
  obtain ⟨μ, _, ha⟩ := ht c le_rfl
  refine ⟨μ, fun e => (ha e).trans (congrArg _ ?_)⟩
  have hl : l ≤ 3 := by omega
  exact all_keys (fun k => v e k * wt s (1024 * c + 256 * l + j.val) μ k) (1024 * c) (256 * l + 256) 16384 (by omega) (fun k hk => by
    unfold wt
    rw [if_neg (by omega), mul_zero])

end Lane

end Cert.KernelIdeal.Hand
-- ==== Proof.Point.lean ====
/- What a grid point writes, when what it reads is real: the difference of two softmax averages, row by row normalized. -/
module

public import proofs.«01_k».proof.Proof.Chain
public import proofs.«01_k».proof.Proof.Soft

@[expose] public section

noncomputable section

namespace Cert.KernelIdeal.Hand

open Cert.KernelIdeal
open Idealize.ShloMosaic Idealize.SL.Sem
open Facts₀ Facts

/-- Two to a score scaled by the logarithm of two, below a maximum. -/
theorem wt_eq (x : ℕ → ℝ) (q : ℕ) (μ : ℝ) (k : ℕ) : wt (fun k => x k / Real.log 2) q μ k = expTo x q k * (2 : ℝ) ^ (-μ) := by
  unfold wt expTo
  split
  · rw [sub_eq_add_neg, Real.rpow_add (by norm_num)]
    congr 1
    rw [Real.rpow_def_of_pos (by norm_num), mul_div_cancel₀ _ (Real.log_pos (by norm_num)).ne']
  · simp

section Point
variable (I : Ins Ideal) (c : ℕ) (qf : Bool → Fin 128 → ℕ → ℝ) (kf : Bool → ℕ → Fin 128 → ℝ)

/-- Which of the two halves a chain belongs to. -/
def halfOf (n : Fin 8) : Bool := n.val % 2 = 1

/-- The queries and keys are the reals `qf` and `kf`. -/
structure RealQK : Prop where
  qa : ∀ (d : Fin 128) (x : Fin 1024), I.qa (ix3 (0 : Fin 1) d x) = ((qf false d x.val : ℝ) : EReal)
  qb : ∀ (d : Fin 128) (x : Fin 1024), I.qb (ix3 (0 : Fin 1) d x) = ((qf true d x.val : ℝ) : EReal)
  ka : ∀ (k : Fin 16384) (d : Fin 128), I.ka (ix3 (0 : Fin 1) k d) = ((kf false k.val d : ℝ) : EReal)
  kb : ∀ (k : Fin 16384) (d : Fin 128), I.kb (ix3 (0 : Fin 1) k d) = ((kf true k.val d : ℝ) : EReal)

variable {I c qf kf}

theorem castQ_at (v : FVec Ideal S1x128x256 .bf16) (d : Fin 128) (j : Fin 256) : castQ (F := Ideal) v (ix2 d j) = v (ix3 (0 : Fin 1) d j) := by
  pointwise [castQ]

/-- A window of 256 queries, read. -/
theorem window_q (Q : Vec Ideal S1x128x1024 .bf16) (o : ℕ) (inb : ∀ a, (![0, 0, o] : Fin 3 → ℕ) a + S1x128x256.size a ≤ S1x128x1024.size a)
    (ho : o + 256 ≤ 1024) (d : Fin 128) (j : Fin 256) :
    castQ (F := Ideal) (VecWindow.window Q ![0, 0, o] S1x128x256.size inb) (ix2 d j) = Q (ix3 (0 : Fin 1) d (⟨o + j.val, by omega⟩ : Fin 1024)) := by
  rw [castQ_at]
  refine congrArg Q (funext fun a => Fin.ext ?_)
  fin_cases a
  · rfl
  · show 0 + 1 * d.val = d.val; omega
  · show o + 1 * j.val = o + j.val; omega

theorem qOf_at (h : RealQK I qf kf) (n : Fin 8) (d : Fin 128) (j : Fin 256) :
    qOf I n (ix2 d j) = ((qf (halfOf n) d (256 * (3 - n.val / 2) + j.val) : ℝ) : EReal) := by
  match n with
  | 0 => exact (window_q I.qa 768 _ (by omega) d j).trans (h.qa d _)
  | 1 => exact (window_q I.qb 768 _ (by omega) d j).trans (h.qb d _)
  | 2 => exact (window_q I.qa 512 _ (by omega) d j).trans (h.qa d _)
  | 3 => exact (window_q I.qb 512 _ (by omega) d j).trans (h.qb d _)
  | 4 => exact (window_q I.qa 256 _ (by omega) d j).trans (h.qa d _)
  | 5 => exact (window_q I.qb 256 _ (by omega) d j).trans (h.qb d _)
  | 6 => exact (window_q I.qa 0 _ (by omega) d j).trans (h.qa d _)
  | 7 => exact (window_q I.qb 0 _ (by omega) d j).trans (h.qb d _)

theorem kOf_at (h : RealQK I qf kf) (n : Fin 8) (k : Fin 16384) (d : Fin 128) :
    kOf I n (ix3 (0 : Fin 1) k d) = ((kf (halfOf n) k.val d : ℝ) : EReal) := by
  match n with
  | 0 => exact h.ka k d
  | 1 => exact h.kb k d
  | 2 => exact h.ka k d
  | 3 => exact h.kb k d
  | 4 => exact h.ka k d
  | 5 => exact h.kb k d
  | 6 => exact h.ka k d
  | 7 => exact h.kb k d

/-- The scores of a chain's lane. -/
theorem scores_at (h : RealQK I qf kf) (n : Fin 8) (j : Fin 256) (x : ℕ → ℝ)
    (hx : ∀ k, ∑ d, kf (halfOf n) k d * qf (halfOf n) d (256 * (3 - n.val / 2) + j.val) = x k / Real.log 2) :
    RealScores I n j (fun k => x k / Real.log 2) := by
  intro t ht r y
  have hr := r.isLt
  have hy := y.isLt
  unfold blk
  dsimp only
  rw [scoreV_apply, ← hx, real_sum]
  refine Finset.sum_congr rfl fun d _ => ?_
  rw [qOf_at h, EReal.coe_mul]
  congr 1
  rw [← kOf_at h n ⟨1024 * t + 256 * r.val + y.val, by omega⟩ d]
  unfold keysAt
  rw [dif_pos (by omega)]
  refine congrArg (kOf I n) (funext fun a => Fin.ext ?_)
  fin_cases a
  · rfl
  · show 1024 * t + 256 * r.val + 1 * y.val = 1024 * t + 256 * r.val + y.val; omega
  · show 0 + 1 * d.val = d.val; omega

/-- A chain's average: its accumulator over the row of ones. -/
theorem average_at (h : RealQK I qf kf) {v : Fin 272 → ℕ → ℝ} (hv : RealValues I v) (h1 : ∀ k, v 256 k = 1) (hc : c < 16) (n : Fin 8) (j : Fin 256)
    (x : ℕ → ℝ) (hx : ∀ k, ∑ d, kf (halfOf n) k d * qf (halfOf n) d (256 * (3 - n.val / 2) + j.val) = x k / Real.log 2) :
    ∃ A : Fin 272 → ℝ, (∀ e, (chain I c n c).a (ix3 (0 : Fin 1) e j) = ((A e : ℝ) : EReal)) ∧ A 256 ≠ 0
      ∧ ∀ e, A e / A 256 = soft x (1024 * c + 256 * (3 - n.val / 2) + j.val) (v e) := by
  obtain ⟨μ, hμ⟩ := chain_at (scores_at h n j x hx) hv hc (3 - n.val / 2) rfl
  have hp : (0 : ℝ) < (2 : ℝ) ^ (-μ) := Real.rpow_pos_of_pos (by norm_num) _
  have hw := wt_eq x (1024 * c + 256 * (3 - n.val / 2) + j.val) μ
  have hd : ∑ k ∈ Finset.range 16384, v 256 k * wt (fun k => x k / Real.log 2) (1024 * c + 256 * (3 - n.val / 2) + j.val) μ k
      = ∑ k ∈ Finset.range 16384, wt (fun k => x k / Real.log 2) (1024 * c + 256 * (3 - n.val / 2) + j.val) μ k :=
    Finset.sum_congr rfl fun k _ => by rw [h1, one_mul]
  refine ⟨_, hμ, ?_, fun e => ?_⟩
  · rw [hd]; exact (scaled_sum_pos hp hw).ne'
  · rw [hd]; exact soft_of_scaled hp hw (v e)

theorem ofBits_one : Ideal.ofBits .f32 0x3F800000#32 = ((1 : ℝ) : EReal) := by
  simp [Ideal.ofBits, Ideal.ieee]
  rw [← EReal.coe_mul]
  norm_num

/-- The difference of the averages of the two chains of one block. -/
theorem diff_at (h : RealQK I qf kf) {v : Fin 272 → ℕ → ℝ} (hv : RealValues I v) (h1 : ∀ k, v 256 k = 1) (hc : c < 16) (n n' : Fin 8) (j : Fin 256)
    (x x' : ℕ → ℝ) (hx : ∀ k, ∑ d, kf (halfOf n) k d * qf (halfOf n) d (256 * (3 - n.val / 2) + j.val) = x k / Real.log 2)
    (hx' : ∀ k, ∑ d, kf (halfOf n') k d * qf (halfOf n') d (256 * (3 - n'.val / 2) + j.val) = x' k / Real.log 2)
    (lam : FVec Ideal S1x1 .f32) (l : ℝ) (hl : lam (ix2 (0 : Fin 1) (0 : Fin 1)) = (l : EReal)) (e : Fin 256) :
    diffV lam (chain I c n c).a (chain I c n' c).a (ix2 e j)
      = ((soft x (1024 * c + 256 * (3 - n.val / 2) + j.val) (v ⟨e.val, by omega⟩)
          - l * soft x' (1024 * c + 256 * (3 - n'.val / 2) + j.val) (v ⟨e.val, by omega⟩) : ℝ) : EReal) := by
  obtain ⟨A, hA, hA0, hAs⟩ := average_at h hv h1 hc n j x hx
  obtain ⟨B, hB, hB0, hBs⟩ := average_at h hv h1 hc n' j x' hx'
  rw [diffV_apply, hA, hA, hB, hB, hl, ofBits_one, Ideal.div_coe hA0, Ideal.div_coe hB0, ← EReal.coe_mul, ← EReal.coe_mul, ← EReal.coe_mul,
    ← EReal.coe_mul, ← EReal.coe_sub, ← hAs, ← hBs]
  congr 1
  field_simp

/-- A row of a grid point's block. -/
theorem outF_at (h : RealQK I qf kf) {v : Fin 272 → ℕ → ℝ} (hv : RealValues I v) (h1 : ∀ k, v 256 k = 1) (hc : c < 16) (X : Fin 1024)
    (x : Bool → ℕ → ℝ) (hx : ∀ b k, ∑ d, kf b k d * qf b d X.val = x b k / Real.log 2)
    (l : ℝ) (hl : lamV (F := Ideal) I.la I.lb I.lc I.ld (ix2 (0 : Fin 1) (0 : Fin 1)) = (l : EReal)) (e : Fin 256) :
    outF I c (ix2 X e)
      = rmsAt (fun e' => ((soft (x false) (1024 * c + X.val) (v ⟨e'.val, by omega⟩) - l * soft (x true) (1024 * c + X.val) (v ⟨e'.val, by omega⟩) : ℝ) : EReal))
          (fun e' => I.g (ix2 e' (0 : Fin 1))) e := by
  have hX := X.isLt
  have hj : X.val % 256 < 256 := Nat.mod_lt _ (by decide)
  have aux : ∀ (n n' : Fin 8) (r : Fin 4) (hr : X.val / 256 = r.val) (hn : 3 - n.val / 2 = r.val) (hn' : 3 - n'.val / 2 = r.val)
      (hh : halfOf n = false) (hh' : halfOf n' = true),
      outB I c n n' (ix2 (⟨X.val % 256, hj⟩ : Fin 256) e)
      = rmsAt (fun e' => ((soft (x false) (1024 * c + X.val) (v ⟨e'.val, by omega⟩) - l * soft (x true) (1024 * c + X.val) (v ⟨e'.val, by omega⟩) : ℝ) : EReal))
          (fun e' => I.g (ix2 e' (0 : Fin 1))) e := by
    intro n n' r hr hn hn' hh hh'
    have eX : 256 * r.val + X.val % 256 = X.val := by omega
    have key : ∀ e' : Fin 256, diffV (lamV I.la I.lb I.lc I.ld) (chain I c n c).a (chain I c n' c).a (ix2 e' (⟨X.val % 256, hj⟩ : Fin 256))
        = ((soft (x false) (1024 * c + X.val) (v ⟨e'.val, by omega⟩) - l * soft (x true) (1024 * c + X.val) (v ⟨e'.val, by omega⟩) : ℝ) : EReal) := by
      intro e'
      rw [diff_at h hv h1 hc n n' ⟨X.val % 256, hj⟩ (x false) (x true) (fun k => by rw [hn, hh]; dsimp only; rw [eX]; exact hx false k)
        (fun k => by rw [hn', hh']; dsimp only; rw [eX]; exact hx true k) _ l hl e', hn, hn']
      dsimp only
      rw [show 1024 * c + 256 * r.val + X.val % 256 = 1024 * c + X.val by omega]
    unfold outB rmsAt
    rw [outV_apply]
    simp only [key]
  unfold outF
  obtain ⟨r, hr⟩ : ∃ r : Fin 4, X.val / 256 = r.val := ⟨⟨X.val / 256, by omega⟩, rfl⟩
  refine (stk_at _ X e r hr).trans ?_
  have hr4 := r.isLt
  obtain ⟨rv, hrv⟩ := r
  interval_cases rv
  · exact aux 6 7 0 hr rfl rfl rfl rfl
  · exact aux 4 5 1 hr rfl rfl rfl rfl
  · exact aux 2 3 2 hr rfl rfl rfl rfl
  · exact aux 0 1 3 hr rfl rfl rfl rfl

end Point

end Cert.KernelIdeal.Hand
-- ==== Proof.Host.lean ====
/- What the kernel is handed: the arrays the host has laid out for it, read at an element, in exact arithmetic. -/
module

public import proofs.«01_k».proof.Proof.Gen.KernelIdeal.Frame
public import Idealize.ShloMosaic.PureOps.Ideal
public import Idealize.ShloMosaic.Lib.Claim
public import Idealize.ShloMosaic.Lib.StableHlo.RunRead
public import Idealize.ShloMosaic.Lib.Pointwise

@[expose] public section

noncomputable section

namespace Cert.KernelIdeal.Hand

open Cert.KernelIdeal
open Idealize.ShloMosaic Idealize.ShloMosaic.TcCoe Idealize.SL.Sem
open Facts₀ Facts
open Cert.KernelIdeal.Gen (V)

/-- The scaled queries, heads first, transposed. -/
def queriesH (q : FVec Ideal S2x4x2x16384x128 .f32) : FVec Ideal S8x128x32768 .bf16 :=
  truncf .bf16 (transpose S8x128x32768 [0, 2, 1]
    (Host.divf (shapeCast S8x32768x128 (transpose S4x2x2x16384x128 [1, 2, 0, 3, 4] q transposes_S2x4x2x16384x128_S4x2x2x16384x128_1_2_0_3_4)
        shapeCasts_S4x2x2x16384x128_S8x32768x128)
      (broadcastInDim S8x32768x128 ![] bcast_S_S8x32768x128
        (mulf (Host.sqrt (constant S_ .f32 0x43000000#32)) (Host.log (constant S_ .f32 0x40000000#32)))))
    transposes_S8x32768x128_S8x128x32768_0_2_1) bitsLt_bf16_f32

/-- The keys, heads first. -/
def keysH (k : FVec Ideal S2x4x2x16384x128 .f32) : FVec Ideal S8x32768x128 .bf16 :=
  truncf .bf16 (shapeCast S8x32768x128 (transpose S4x2x2x16384x128 [1, 2, 0, 3, 4] k transposes_S2x4x2x16384x128_S4x2x2x16384x128_1_2_0_3_4)
    shapeCasts_S4x2x2x16384x128_S8x32768x128) bitsLt_bf16_f32

/-- The values, their halves first, transposed, a row of ones and fifteen of zeros under them. -/
def valuesH (v : FVec Ideal S2x4x16384x256 .f32) : FVec Ideal S8x144x32768 .bf16 :=
  concatenate S8x144x32768 1
    [⟨S8x128x32768, truncf .bf16 (shapeCast S8x128x32768 (transpose S4x2x128x2x16384 [1, 3, 4, 0, 2]
        (shapeCast S2x4x16384x2x128 v shapeCasts_S2x4x16384x256_S2x4x16384x2x128) transposes_S2x4x16384x2x128_S4x2x128x2x16384_1_3_4_0_2)
        shapeCasts_S4x2x128x2x16384_S8x128x32768) bitsLt_bf16_f32⟩,
     ⟨S8x1x32768, (broadcastInDim S8x1x32768 ![] bcast_S_S8x1x32768 (constant S_ .bf16 0x3F80#16) : FVec Ideal S8x1x32768 .bf16)⟩,
     ⟨S8x15x32768, (broadcastInDim S8x15x32768 ![] bcast_S_S8x15x32768 (constant S_ .bf16 0x0000#16) : FVec Ideal S8x15x32768 .bf16)⟩]
    concatenates_S8x128x32768_S8x1x32768_S8x15x32768_S8x144x32768_d1

/-- A vector through its flat form. -/
def rowH (a : FVec Ideal S1x128 .f32) : FVec Ideal S1x128 .f32 := shapeCast S1x128 (shapeCast S128 a shapeCasts_S1x128_S128) shapeCasts_S128_S1x128

/-- The gain as a column. -/
def gainH (g : FVec Ideal S1x256 .f32) : FVec Ideal S256x1 .f32 := shapeCast S256x1 (shapeCast S256 g shapeCasts_S1x256_S256) shapeCasts_S256_S256x1

section Entry
variable (m : (ℓ : Loc nD τ sig) → Buf (Elt Ideal) ℓ) (c : Dev nD)

theorem V_v8 : V m c main_v8 = queriesH (m ((c.tc : Thread nD τ).loc main_arg0)) := by entry_read; rfl
theorem V_v11 : V m c main_v11 = keysH (m ((c.tc : Thread nD τ).loc main_arg1)) := by entry_read; rfl
theorem V_v18 : V m c main_v18 = valuesH (m ((c.tc : Thread nD τ).loc main_arg2)) := by
  show StableHlo.after Cert.KernelIdeal.Gen.hostOps0 (fun b => m (c, b)) (Proc.devRef .tc main_v18) = _
  after_reads_simp
  dsimp only [Matrix.cons_val]
  rfl
theorem V_v20 : V m c main_v20 = rowH (m ((c.tc : Thread nD τ).loc main_arg3)) := by entry_read; rfl
theorem V_v22 : V m c main_v22 = rowH (m ((c.tc : Thread nD τ).loc main_arg4)) := by entry_read; rfl
theorem V_v24 : V m c main_v24 = rowH (m ((c.tc : Thread nD τ).loc main_arg5)) := by entry_read; rfl
theorem V_v26 : V m c main_v26 = rowH (m ((c.tc : Thread nD τ).loc main_arg6)) := by entry_read; rfl
theorem V_v28 : V m c main_v28 = gainH (m ((c.tc : Thread nD τ).loc main_arg7)) := by entry_read; rfl

end Entry

theorem queriesH_apply (q : FVec Ideal S2x4x2x16384x128 .f32) (n : Fin 8) (d : Fin 128) (R : Fin 32768) :
    queriesH q (ix3 n d R)
      = Ideal.div (q (ix5 (⟨R.val / 16384, by omega⟩ : Fin 2) (⟨n.val / 2, by omega⟩ : Fin 4) (⟨n.val % 2, by omega⟩ : Fin 2) (⟨R.val % 16384, by omega⟩ : Fin 16384) d))
          (Ideal.sqrt (Ideal.ofBits .f32 0x43000000#32) * Ideal.log (Ideal.ofBits .f32 0x40000000#32)) := by
  pointwise [queriesH]

theorem keysH_apply (k : FVec Ideal S2x4x2x16384x128 .f32) (n : Fin 8) (R : Fin 32768) (d : Fin 128) :
    keysH k (ix3 n R d)
      = k (ix5 (⟨R.val / 16384, by omega⟩ : Fin 2) (⟨n.val / 2, by omega⟩ : Fin 4) (⟨n.val % 2, by omega⟩ : Fin 2) (⟨R.val % 16384, by omega⟩ : Fin 16384) d) := by
  pointwise [keysH]

theorem valuesH_apply (v : FVec Ideal S2x4x16384x256 .f32) (n : Fin 8) (e : Fin 144) (R : Fin 32768) :
    valuesH v (ix3 n e R)
      = if h : e.val < 128 then v (ix4 (⟨R.val / 16384, by omega⟩ : Fin 2) (⟨n.val / 2, by omega⟩ : Fin 4) (⟨R.val % 16384, by omega⟩ : Fin 16384)
            (⟨n.val % 2 * 128 + e.val, by omega⟩ : Fin 256))
        else if e.val = 128 then ((1 : ℝ) : EReal) else ((0 : ℝ) : EReal) := by
  pointwise [valuesH]
  have he := e.isLt
  by_cases h : e.val < 128
  · rw [dif_pos h, dif_pos h]
  · rw [dif_neg h, dif_neg h]
    by_cases h1 : e.val = 128
    · rw [dif_pos (by omega), if_pos h1]; rfl
    · rw [dif_neg (by omega), if_neg h1]; rfl

theorem rowH_apply (a : FVec Ideal S1x128 .f32) (k : Fin 128) : rowH a (ix2 (0 : Fin 1) k) = a (ix2 (0 : Fin 1) k) := by
  pointwise [rowH]

theorem gainH_apply (g : FVec Ideal S1x256 .f32) (e : Fin 256) : gainH g (ix2 e (0 : Fin 1)) = g (ix2 (0 : Fin 1) e) := by
  pointwise [gainH]

end Cert.KernelIdeal.Hand
-- ==== Proof.Fetch.lean ====
/- The blocks a grid point reads, element by element, in terms of the kernel's arguments. -/
module

public import proofs.«01_k».proof.Proof.Frame
public import proofs.«01_k».proof.Proof.Host
public import Idealize.ShloMosaic.Lib.Pipeline.ValueKit.Geometry

@[expose] public section

noncomputable section

namespace Cert.KernelIdeal.Hand

open Cert.KernelIdeal
open Idealize.ShloMosaic Idealize.ShloMosaic.TcCoe Idealize.ShloMosaic.Pipeline Idealize.SL.Sem
open Facts₀ Facts
open Cert.KernelIdeal.Gen (V iblk)

theorem queries_at (q : FVec Ideal S2x4x2x16384x128 .f32) (n : Fin 8) (d : Fin 128) (R : Fin 32768) (b : Fin 2) (h : Fin 4) (u : Fin 2) (k : Fin 16384)
    (hn : n.val = 2 * h.val + u.val) (hR : R.val = 16384 * b.val + k.val) :
    queriesH q (ix3 n d R) = Ideal.div (q (ix5 b h u k d)) (Ideal.sqrt (Ideal.ofBits .f32 0x43000000#32) * Ideal.log (Ideal.ofBits .f32 0x40000000#32)) := by
  have hu := u.isLt
  have hk := k.isLt
  have e1 : ∀ p, (⟨R.val / 16384, p⟩ : Fin 2) = b := fun p => Fin.ext (by show R.val / 16384 = b.val; omega)
  have e2 : ∀ p, (⟨n.val / 2, p⟩ : Fin 4) = h := fun p => Fin.ext (by show n.val / 2 = h.val; omega)
  have e3 : ∀ p, (⟨n.val % 2, p⟩ : Fin 2) = u := fun p => Fin.ext (by show n.val % 2 = u.val; omega)
  have e4 : ∀ p, (⟨R.val % 16384, p⟩ : Fin 16384) = k := fun p => Fin.ext (by show R.val % 16384 = k.val; omega)
  rw [queriesH_apply, e1, e2, e3, e4]

theorem keys_at (q : FVec Ideal S2x4x2x16384x128 .f32) (n : Fin 8) (d : Fin 128) (R : Fin 32768) (b : Fin 2) (h : Fin 4) (u : Fin 2) (k : Fin 16384)
    (hn : n.val = 2 * h.val + u.val) (hR : R.val = 16384 * b.val + k.val) : keysH q (ix3 n R d) = q (ix5 b h u k d) := by
  have hu := u.isLt
  have hk := k.isLt
  have e1 : ∀ p, (⟨R.val / 16384, p⟩ : Fin 2) = b := fun p => Fin.ext (by show R.val / 16384 = b.val; omega)
  have e2 : ∀ p, (⟨n.val / 2, p⟩ : Fin 4) = h := fun p => Fin.ext (by show n.val / 2 = h.val; omega)
  have e3 : ∀ p, (⟨n.val % 2, p⟩ : Fin 2) = u := fun p => Fin.ext (by show n.val % 2 = u.val; omega)
  have e4 : ∀ p, (⟨R.val % 16384, p⟩ : Fin 16384) = k := fun p => Fin.ext (by show R.val % 16384 = k.val; omega)
  rw [keysH_apply, e1, e2, e3, e4]

/-- A row of the stacked values: the values, a row of ones, zeros. -/
def valRow (v : FVec Ideal S2x4x16384x256 .f32) (b : Fin 2) (h : Fin 4) (k : Fin 16384) (u : Fin 2) (e : Fin 144) : EReal :=
  if he : e.val < 128 then v (ix4 b h k (⟨128 * u.val + e.val, by omega⟩ : Fin 256)) else if e.val = 128 then ((1 : ℝ) : EReal) else ((0 : ℝ) : EReal)

theorem values_at (v : FVec Ideal S2x4x16384x256 .f32) (n : Fin 8) (e : Fin 144) (R : Fin 32768) (b : Fin 2) (h : Fin 4) (u : Fin 2) (k : Fin 16384)
    (hn : n.val = 2 * h.val + u.val) (hR : R.val = 16384 * b.val + k.val) : valuesH v (ix3 n e R) = valRow v b h k u e := by
  have hu := u.isLt
  have hk := k.isLt
  have e1 : ∀ p, (⟨R.val / 16384, p⟩ : Fin 2) = b := fun p => Fin.ext (by show R.val / 16384 = b.val; omega)
  have e2 : ∀ p, (⟨n.val / 2, p⟩ : Fin 4) = h := fun p => Fin.ext (by show n.val / 2 = h.val; omega)
  have e4 : ∀ p, (⟨R.val % 16384, p⟩ : Fin 16384) = k := fun p => Fin.ext (by show R.val % 16384 = k.val; omega)
  rw [valuesH_apply, e1, e2, e4]
  unfold valRow
  by_cases he : e.val < 128
  · rw [dif_pos he, dif_pos he]
    have e3 : ∀ p, (⟨n.val % 2 * 128 + e.val, p⟩ : Fin 256) = ⟨128 * u.val + e.val, by omega⟩ :=
      fun p => Fin.ext (by show n.val % 2 * 128 + e.val = 128 * u.val + e.val; omega)
    rw [e3]
  · rw [dif_neg he, dif_neg he]

section Fetch
variable (m : (ℓ : Loc nD τ sig) → Buf (Elt Ideal) ℓ) (c : Dev nD) (t : Fin cfg0.N)

/-- The batch, the head and the chunk of a grid point. -/
def bAt : Fin 2 := grid0.coords t 0
def hAt : Fin 4 := grid0.coords t 1
def iAt : Fin 16 := grid0.coords t 2

theorem e0 : ∀ t : Fin cfg0.N, win0_0.index t = ![2 * (grid0.coords t 1).val, 0, 16 * (grid0.coords t 0).val + (grid0.coords t 2).val] :=
  (by decide +kernel : ∀ t : Fin grid0.N, _)
theorem e1 : ∀ t : Fin cfg0.N, win0_1.index t = ![2 * (grid0.coords t 1).val + 1, 0, 16 * (grid0.coords t 0).val + (grid0.coords t 2).val] :=
  (by decide +kernel : ∀ t : Fin grid0.N, _)
theorem e2 : ∀ t : Fin cfg0.N, win0_2.index t = ![2 * (grid0.coords t 1).val, (grid0.coords t 0).val, 0] :=
  (by decide +kernel : ∀ t : Fin grid0.N, _)
theorem e3 : ∀ t : Fin cfg0.N, win0_3.index t = ![2 * (grid0.coords t 1).val + 1, (grid0.coords t 0).val, 0] :=
  (by decide +kernel : ∀ t : Fin grid0.N, _)
theorem e4 : ∀ t : Fin cfg0.N, win0_4.index t = ![2 * (grid0.coords t 1).val, 0, (grid0.coords t 0).val] :=
  (by decide +kernel : ∀ t : Fin grid0.N, _)
theorem e5 : ∀ t : Fin cfg0.N, win0_5.index t = ![2 * (grid0.coords t 1).val + 1, 0, (grid0.coords t 0).val] :=
  (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![16 * (grid0.coords t 0).val + (grid0.coords t 2).val, (grid0.coords t 1).val] :=
  (by decide +kernel : ∀ t : Fin grid0.N, _)

theorem coord_lt : (grid0.coords t 0).val < 2 ∧ (grid0.coords t 1).val < 4 ∧ (grid0.coords t 2).val < 16 :=
  ⟨(bAt t).isLt, (hAt t).isLt, (iAt t).isLt⟩

theorem ins_qa (d : Fin 128) (x : Fin 1024) : (insAt m c t).qa (ix3 (0 : Fin 1) d x)
    = Ideal.div ((m ((c.tc : Thread nD τ).loc main_arg0) : FVec Ideal S2x4x2x16384x128 .f32)
          (ix5 (bAt t) (hAt t) (0 : Fin 2) (⟨1024 * (iAt t).val + x.val, by have := (iAt t).isLt; omega⟩ : Fin 16384) d))
        (Ideal.sqrt (Ideal.ofBits .f32 0x43000000#32) * Ideal.log (Ideal.ofBits .f32 0x40000000#32)) := by
  obtain ⟨h0, h1, h2⟩ := coord_lt t
  have hx := x.isLt
  have e : (insAt m c t).qa (ix3 (0 : Fin 1) d x) = queriesH (m ((c.tc : Thread nD τ).loc main_arg0))
      (ix3 (⟨2 * (grid0.coords t 1).val + 0, by omega⟩ : Fin 8) d
        (⟨(16 * (grid0.coords t 0).val + (grid0.coords t 2).val) * 1024 + x.val, by omega⟩ : Fin 32768)) := by
    show iblk m c 0 t (ix3 (0 : Fin 1) d x) = _
    blk_simp [iblk]
    rw [V_v8]
    refine congrArg _ ?_
    blk_ext [e0]
  rw [e]
  exact queries_at _ _ _ _ (bAt t) (hAt t) 0 _ rfl (by
    show (16 * (grid0.coords t 0).val + (grid0.coords t 2).val) * 1024 + x.val = 16384 * (grid0.coords t 0).val + (1024 * (grid0.coords t 2).val + x.val)
    omega)

theorem ins_qb (d : Fin 128) (x : Fin 1024) : (insAt m c t).qb (ix3 (0 : Fin 1) d x)
    = Ideal.div ((m ((c.tc : Thread nD τ).loc main_arg0) : FVec Ideal S2x4x2x16384x128 .f32)
          (ix5 (bAt t) (hAt t) (1 : Fin 2) (⟨1024 * (iAt t).val + x.val, by have := (iAt t).isLt; omega⟩ : Fin 16384) d))
        (Ideal.sqrt (Ideal.ofBits .f32 0x43000000#32) * Ideal.log (Ideal.ofBits .f32 0x40000000#32)) := by
  obtain ⟨h0, h1, h2⟩ := coord_lt t
  have hx := x.isLt
  have e : (insAt m c t).qb (ix3 (0 : Fin 1) d x) = queriesH (m ((c.tc : Thread nD τ).loc main_arg0))
      (ix3 (⟨2 * (grid0.coords t 1).val + 1, by omega⟩ : Fin 8) d
        (⟨(16 * (grid0.coords t 0).val + (grid0.coords t 2).val) * 1024 + x.val, by omega⟩ : Fin 32768)) := by
    show iblk m c 1 t (ix3 (0 : Fin 1) d x) = _
    blk_simp [iblk]
    rw [V_v8]
    refine congrArg _ ?_
    blk_ext [e1]
  rw [e]
  exact queries_at _ _ _ _ (bAt t) (hAt t) 1 _ rfl (by
    show (16 * (grid0.coords t 0).val + (grid0.coords t 2).val) * 1024 + x.val = 16384 * (grid0.coords t 0).val + (1024 * (grid0.coords t 2).val + x.val)
    omega)

theorem ins_ka (k : Fin 16384) (d : Fin 128) : (insAt m c t).ka (ix3 (0 : Fin 1) k d)
    = (m ((c.tc : Thread nD τ).loc main_arg1) : FVec Ideal S2x4x2x16384x128 .f32) (ix5 (bAt t) (hAt t) (0 : Fin 2) k d) := by
  obtain ⟨h0, h1, h2⟩ := coord_lt t
  have hk := k.isLt
  have e : (insAt m c t).ka (ix3 (0 : Fin 1) k d) = keysH (m ((c.tc : Thread nD τ).loc main_arg1))
      (ix3 (⟨2 * (grid0.coords t 1).val + 0, by omega⟩ : Fin 8) (⟨(grid0.coords t 0).val * 16384 + k.val, by omega⟩ : Fin 32768) d) := by
    show iblk m c 2 t (ix3 (0 : Fin 1) k d) = _
    blk_simp [iblk]
    rw [V_v11]
    refine congrArg _ ?_
    blk_ext [e2]
  rw [e]
  exact keys_at _ _ _ _ (bAt t) (hAt t) 0 _ rfl (Nat.add_right_cancel_iff.2 (Nat.mul_comm _ _))

theorem ins_kb (k : Fin 16384) (d : Fin 128) : (insAt m c t).kb (ix3 (0 : Fin 1) k d)
    = (m ((c.tc : Thread nD τ).loc main_arg1) : FVec Ideal S2x4x2x16384x128 .f32) (ix5 (bAt t) (hAt t) (1 : Fin 2) k d) := by
  obtain ⟨h0, h1, h2⟩ := coord_lt t
  have hk := k.isLt
  have e : (insAt m c t).kb (ix3 (0 : Fin 1) k d) = keysH (m ((c.tc : Thread nD τ).loc main_arg1))
      (ix3 (⟨2 * (grid0.coords t 1).val + 1, by omega⟩ : Fin 8) (⟨(grid0.coords t 0).val * 16384 + k.val, by omega⟩ : Fin 32768) d) := by
    show iblk m c 3 t (ix3 (0 : Fin 1) k d) = _
    blk_simp [iblk]
    rw [V_v11]
    refine congrArg _ ?_
    blk_ext [e3]
  rw [e]
  exact keys_at _ _ _ _ (bAt t) (hAt t) 1 _ rfl (Nat.add_right_cancel_iff.2 (Nat.mul_comm _ _))

theorem ins_vl (e : Fin 144) (k : Fin 16384) : (insAt m c t).vl (ix3 (0 : Fin 1) e k)
    = valRow (m ((c.tc : Thread nD τ).loc main_arg2)) (bAt t) (hAt t) k 0 e := by
  obtain ⟨h0, h1, h2⟩ := coord_lt t
  have hk := k.isLt
  have e : (insAt m c t).vl (ix3 (0 : Fin 1) e k) = valuesH (m ((c.tc : Thread nD τ).loc main_arg2))
      (ix3 (⟨2 * (grid0.coords t 1).val + 0, by omega⟩ : Fin 8) e (⟨(grid0.coords t 0).val * 16384 + k.val, by omega⟩ : Fin 32768)) := by
    show iblk m c 4 t (ix3 (0 : Fin 1) e k) = _
    blk_simp [iblk]
    rw [V_v18]
    refine congrArg _ ?_
    blk_ext [e4]
  rw [e]
  exact values_at _ _ _ _ (bAt t) (hAt t) 0 _ rfl (Nat.add_right_cancel_iff.2 (Nat.mul_comm _ _))

theorem ins_vh (e : Fin 144) (k : Fin 16384) : (insAt m c t).vh (ix3 (0 : Fin 1) e k)
    = valRow (m ((c.tc : Thread nD τ).loc main_arg2)) (bAt t) (hAt t) k 1 e := by
  obtain ⟨h0, h1, h2⟩ := coord_lt t
  have hk := k.isLt
  have e : (insAt m c t).vh (ix3 (0 : Fin 1) e k) = valuesH (m ((c.tc : Thread nD τ).loc main_arg2))
      (ix3 (⟨2 * (grid0.coords t 1).val + 1, by omega⟩ : Fin 8) e (⟨(grid0.coords t 0).val * 16384 + k.val, by omega⟩ : Fin 32768)) := by
    show iblk m c 5 t (ix3 (0 : Fin 1) e k) = _
    blk_simp [iblk]
    rw [V_v18]
    refine congrArg _ ?_
    blk_ext [e5]
  rw [e]
  exact values_at _ _ _ _ (bAt t) (hAt t) 1 _ rfl (Nat.add_right_cancel_iff.2 (Nat.mul_comm _ _))

theorem ins_la (k : Fin 128) : (insAt m c t).la (ix2 (0 : Fin 1) k)
    = (m ((c.tc : Thread nD τ).loc main_arg3) : FVec Ideal S1x128 .f32) (ix2 (0 : Fin 1) k) := by
  refine Eq.trans ?_ (rowH_apply _ k)
  show iblk m c 6 t (ix2 (0 : Fin 1) k) = _
  blk_simp [iblk]
  rw [V_v20]
  refine congrArg _ ?_
  blk_ext [e6]

theorem ins_lb (k : Fin 128) : (insAt m c t).lb (ix2 (0 : Fin 1) k)
    = (m ((c.tc : Thread nD τ).loc main_arg4) : FVec Ideal S1x128 .f32) (ix2 (0 : Fin 1) k) := by
  refine Eq.trans ?_ (rowH_apply _ k)
  show iblk m c 7 t (ix2 (0 : Fin 1) k) = _
  blk_simp [iblk]
  rw [V_v22]
  refine congrArg _ ?_
  blk_ext [e7]

theorem ins_lc (k : Fin 128) : (insAt m c t).lc (ix2 (0 : Fin 1) k)
    = (m ((c.tc : Thread nD τ).loc main_arg5) : FVec Ideal S1x128 .f32) (ix2 (0 : Fin 1) k) := by
  refine Eq.trans ?_ (rowH_apply _ k)
  show iblk m c 8 t (ix2 (0 : Fin 1) k) = _
  blk_simp [iblk]
  rw [V_v24]
  refine congrArg _ ?_
  blk_ext [e8]

theorem ins_ld (k : Fin 128) : (insAt m c t).ld (ix2 (0 : Fin 1) k)
    = (m ((c.tc : Thread nD τ).loc main_arg6) : FVec Ideal S1x128 .f32) (ix2 (0 : Fin 1) k) := by
  refine Eq.trans ?_ (rowH_apply _ k)
  show iblk m c 9 t (ix2 (0 : Fin 1) k) = _
  blk_simp [iblk]
  rw [V_v26]
  refine congrArg _ ?_
  blk_ext [e9]

theorem ins_g (e : Fin 256) : (insAt m c t).g (ix2 e (0 : Fin 1)) = (m ((c.tc : Thread nD τ).loc main_arg7) : FVec Ideal S1x256 .f32) (ix2 (0 : Fin 1) e) := by
  refine Eq.trans ?_ (gainH_apply _ e)
  show iblk m c 10 t (ix2 e (0 : Fin 1)) = _
  blk_simp [iblk]
  rw [V_v28]
  refine congrArg _ ?_
  blk_ext [e10]

end Fetch

end Cert.KernelIdeal.Hand
-- ==== Proof.RefRead.lean ====
/- The reference's stages read at one element, in exact arithmetic. -/
module

public import proofs.«01_k».proof.Proof.RefRun
public import proofs.«01_k».proof.Proof.Soft
public import Idealize.ShloMosaic.Lib.Pointwise
public import Idealize.ShloMosaic.Lib.WordCmp

@[expose] public section

noncomputable section

namespace Cert.ReferenceIdeal.Hand

open Cert.ReferenceIdeal
open Idealize.ShloMosaic Idealize.SL.Sem
open Cert.KernelIdeal.Hand (rmsAt lamAt)
open Facts₀ Facts

theorem negInf : Ideal.ofBits .f32 0xFF800000#32 = (⊥ : EReal) := by
  simp [Ideal.ofBits, Ideal.ieee]

theorem lamR_apply (a b c d : FVec Ideal S1x128 .f32) (i : S_.Idx) :
    lamR (F := Ideal) a b c d i = lamAt (fun k => a (ix2 (0 : Fin 1) k)) (fun k => b (ix2 (0 : Fin 1) k)) (fun k => c (ix2 (0 : Fin 1) k)) (fun k => d (ix2 (0 : Fin 1) k)) := by
  unfold lamAt
  pointwise [lamR, expR]

section Score
variable (b : Fin 2) (h : Fin 4) (u : Fin 2) (q k : Fin 16384)

theorem scoreR_apply (x y : FVec Ideal S2x4x2x16384x128 .f32) : scoreR (F := Ideal) x y (ix5 b h u q k)
    = Ideal.div (∑ d : Fin 128, x (ix5 b h u q d) * y (ix5 b h u k d)) (Ideal.sqrt (Ideal.ofBits .f32 0x43000000#32)) := by
  pointwise [scoreR]

theorem maskedR_apply (x : FVec Ideal S2x4x2x16384x16384 .f32) :
    maskedR (F := Ideal) x (ix5 b h u q k) = if k.val ≤ q.val then x (ix5 b h u q k) else ⊥ := by
  pointwise [maskedR, causalR]
  have hk := k.isLt
  have hq := q.isLt
  rw [WordCmp.cmpi_sle_ofNat (by omega) (by omega), negInf]
  by_cases hkq : k.val ≤ q.val
  · rw [if_pos hkq, decide_eq_true hkq]; rfl
  · rw [if_neg hkq, decide_eq_false hkq]; rfl

theorem numR_apply (x : FVec Ideal S2x4x2x16384x16384 .f32) :
    numR (F := Ideal) x (ix5 b h u q k) = Ideal.exp (x (ix5 b h u q k) - maxR (F := Ideal) x (ix4 b h u q)) := by
  pointwise [numR, rowsR]

theorem softR_apply (x : FVec Ideal S2x4x2x16384x16384 .f32) :
    softR (F := Ideal) x (ix5 b h u q k) = Ideal.div (numR (F := Ideal) x (ix5 b h u q k)) (∑ k', numR (F := Ideal) x (ix5 b h u q k')) := by
  pointwise [softR, rowsR]

end Score

section Mix
variable (b : Fin 2) (h : Fin 4) (q k : Fin 16384)

theorem attnR_apply (lam : FVec Ideal S_ .f32) (l : EReal) (hl : ∀ i, lam i = l) (p : FVec Ideal S2x4x2x16384x16384 .f32) :
    attnR (F := Ideal) lam p (ix4 b h q k) = p (ix5 b h (0 : Fin 2) q k) - l * p (ix5 b h (1 : Fin 2) q k) := by
  pointwise [attnR]
  rw [hl]

theorem mixR_apply (a : FVec Ideal S2x4x16384x16384 .f32) (v : FVec Ideal S2x4x16384x256 .f32) (e : Fin 256) :
    mixR (F := Ideal) a v (ix4 b h q e) = ∑ k, a (ix4 b h q k) * v (ix4 b h k e) := by
  pointwise [mixR]

theorem normR_apply (o : FVec Ideal S2x4x16384x256 .f32) (g : FVec Ideal S1x256 .f32) (e : Fin 256) :
    normR (F := Ideal) o g (ix4 b h q e) = rmsAt (fun e' => o (ix4 b h q e')) (fun e' => g (ix2 (0 : Fin 1) e')) e := by
  unfold rmsAt
  pointwise [normR]

end Mix

theorem layR_apply (o : FVec Ideal S2x4x16384x256 .f32) (R : Fin 32768) (C : Fin 1024) :
    layR (F := Ideal) o (ix2 R C)
      = o (ix4 (⟨R.val / 16384, by omega⟩ : Fin 2) (⟨C.val / 256, by omega⟩ : Fin 4) (⟨R.val % 16384, by omega⟩ : Fin 16384) (⟨C.val % 256, by omega⟩ : Fin 256)) := by
  pointwise [layR]

end Cert.ReferenceIdeal.Hand
-- ==== Proof.RefMax.lean ====
/- The reference's row maxima are real wherever the scores are not plus infinity. -/
module

public import proofs.«01_k».proof.Proof.RefRead

@[expose] public section

noncomputable section

namespace Cert.ReferenceIdeal.Hand

open Cert.ReferenceIdeal
open Idealize.ShloMosaic Idealize.SL.Sem
open Facts₀ Facts

theorem foldl_max_lt {ι : Type} (f : ι → EReal) (l : List ι) : ∀ a : EReal, a < ⊤ → (∀ n ∈ l, f n < ⊤) → l.foldl (fun r n => max r (f n)) a < ⊤ := by
  induction l with
  | nil => exact fun a ha _ => ha
  | cons n l ih => exact fun a ha h => ih _ (max_lt ha (h n (List.mem_cons_self ..))) fun k hk => h k (List.mem_cons_of_mem _ hk)

theorem init_le_foldl_max {ι : Type} (f : ι → EReal) (l : List ι) : ∀ a : EReal, a ≤ l.foldl (fun r n => max r (f n)) a := by
  induction l with
  | nil => exact fun a => le_rfl
  | cons n l ih => exact fun a => (le_max_left _ _).trans (ih _)

theorem le_foldl_max {ι : Type} (f : ι → EReal) (l : List ι) : ∀ (a : EReal) (n : ι), n ∈ l → f n ≤ l.foldl (fun r n => max r (f n)) a := by
  induction l with
  | nil => exact fun a n hn => absurd hn List.not_mem_nil
  | cons k l ih =>
    intro a n hn
    rcases List.mem_cons.1 hn with rfl | hn
    · exact (le_max_right _ _).trans (init_le_foldl_max f l _)
    · exact ih _ n hn

section ReduceMax
variable {s t u : Shape} {axes : List (Fin s.rank)} (x : FVec Ideal s .f32) (init : FVec Ideal u .f32) (h : s.ReducesTo axes t) (hu : 0 < u.numel)

theorem reduce_max_lt (hx : ∀ i, (x i : EReal) < ⊤) (hi : (init (Shape.Idx.first hu) : EReal) < ⊤) (j : t.Idx) :
    (Host.reduce (FloatOps.maximumf (F := Ideal) (φ := .f32)) x init h hu j : EReal) < ⊤ :=
  foldl_max_lt _ _ _ hi fun n _ => hx _

theorem le_reduce_max (i : s.Idx) (j : t.Idx) (hij : h.drop i = j) :
    (x i : EReal) ≤ Host.reduce (FloatOps.maximumf (F := Ideal) (φ := .f32)) x init h hu j := by
  have e := le_foldl_max (fun n => (x (s.rowMajor.symm n) : EReal)) ((List.finRange s.numel).filter fun n => h.drop (s.rowMajor.symm n) = j)
    (init (Shape.Idx.first hu)) (s.rowMajor i) (List.mem_filter.2 ⟨List.mem_finRange _, by rw [Equiv.symm_apply_apply]; exact decide_eq_true hij⟩)
  rw [Equiv.symm_apply_apply] at e
  exact e

end ReduceMax

theorem max_apply {s : Shape} (a b : FVec Ideal s .f32) (i : s.Idx) : maximumf a b i = max (a i : EReal) (b i) := rfl

theorem const_bcast {s : Shape} (h : S_.BroadcastsInDim s (![] : Fin 0 → Fin s.rank)) (i : s.Idx) :
    (broadcastInDim s ![] h (constant S_ .f32 0xFF800000#32 : FVec Ideal S_ .f32) i : EReal) = ⊥ := negInf

theorem drop_last (b : Fin 2) (h : Fin 4) (u : Fin 2) (q k : Fin 16384) :
    reducesTo_S2x4x2x16384x16384_S2x4x2x16384_d4.drop (ix5 b h u q k) = ix4 b h u q := by
  funext a
  fin_cases a <;> rfl

theorem maxR_real (b : Fin 2) (h : Fin 4) (u : Fin 2) (q : Fin 16384) (x : FVec Ideal S2x4x2x16384x16384 .f32) (hx : ∀ i, (x i : EReal) < ⊤)
    (h0 : (⊥ : EReal) < x (ix5 b h u q (0 : Fin 16384))) : ∃ M : ℝ, maxR (F := Ideal) x (ix4 b h u q) = ((M : ℝ) : EReal) := by
  have hlt := reduce_max_lt x (constant (F := Ideal) S_ .f32 0xFF800000#32) reducesTo_S2x4x2x16384x16384_S2x4x2x16384_d4 h_S_ hx
    (lt_of_eq_of_lt negInf bot_lt_top) (ix4 b h u q)
  have hgt := h0.trans_le (le_reduce_max x (constant (F := Ideal) S_ .f32 0xFF800000#32) reducesTo_S2x4x2x16384x16384_S2x4x2x16384_d4 h_S_
    _ _ (drop_last b h u q 0))
  unfold maxR
  rw [max_apply, const_bcast]
  revert hlt hgt
  generalize Host.reduce (FloatOps.maximumf (F := Ideal) (φ := .f32)) x (constant (F := Ideal) S_ .f32 0xFF800000#32)
    reducesTo_S2x4x2x16384x16384_S2x4x2x16384_d4 h_S_ (ix4 b h u q) = R
  intro hlt hgt
  exact ⟨_, (max_eq_right bot_le).trans (EReal.coe_toReal hlt.ne hgt.ne').symm⟩

end Cert.ReferenceIdeal.Hand
-- ==== Proof.RefVal.lean ====
/- The reference's result, its inputs real: the difference of two softmax averages, normalized. -/
module

public import proofs.«01_k».proof.Proof.RefMax

@[expose] public section

noncomputable section

namespace Cert.ReferenceIdeal.Hand

open Cert.ReferenceIdeal
open Idealize.ShloMosaic Idealize.SL.Sem
open Cert.KernelIdeal.Hand
open Facts₀ Facts

section Value
variable {q k : FVec Ideal S2x4x2x16384x128 .f32} {v : FVec Ideal S2x4x16384x256 .f32}
  {qr kr : S2x4x2x16384x128.Idx → ℝ} {vr : S2x4x16384x256.Idx → ℝ}
  (hq : ∀ i, q i = ((qr i : ℝ) : EReal)) (hk : ∀ i, k i = ((kr i : ℝ) : EReal)) (hv : ∀ i, v i = ((vr i : ℝ) : EReal))

include hq hk in
theorem score_at (b : Fin 2) (h : Fin 4) (u : Fin 2) (n k' : Fin 16384) :
    scoreR (F := Ideal) q k (ix5 b h u n k') = ((scoreAt qr kr b h u n.val k'.val : ℝ) : EReal) := by
  have e : ∑ d : Fin 128, (q (ix5 b h u n d) * k (ix5 b h u k' d) : EReal) = ((∑ d, at5 qr b h u n.val d * at5 kr b h u k'.val d : ℝ) : EReal) := by
    rw [real_sum]
    refine Finset.sum_congr rfl fun d _ => ?_
    rw [hq, hk, at5_fin, at5_fin, EReal.coe_mul]
  rw [scoreR_apply, e, sqrt_128, Ideal.div_coe (by positivity), ← EReal.coe_mul]
  unfold scoreAt
  rw [mul_one_div]

include hq hk in
theorem mask_at (b : Fin 2) (h : Fin 4) (u : Fin 2) (n k' : Fin 16384) :
    maskedR (F := Ideal) (scoreR (F := Ideal) q k) (ix5 b h u n k')
      = if k'.val ≤ n.val then ((scoreAt qr kr b h u n.val k'.val : ℝ) : EReal) else ⊥ := by
  rw [maskedR_apply, score_at hq hk]

include hq hk in
theorem mask_lt (i : S2x4x2x16384x16384.Idx) : (maskedR (F := Ideal) (scoreR (F := Ideal) q k) i : EReal) < ⊤ := by
  have e : i = ix5 (i 0 : Fin 2) (i 1 : Fin 4) (i 2 : Fin 2) (i 3 : Fin 16384) (i 4 : Fin 16384) := by
    funext a
    fin_cases a <;> rfl
  refine lt_of_eq_of_lt (congrArg (fun y => (maskedR (F := Ideal) (scoreR (F := Ideal) q k) y : EReal)) e)
    (lt_of_eq_of_lt (mask_at hq hk (i 0 : Fin 2) (i 1 : Fin 4) (i 2 : Fin 2) (i 3 : Fin 16384) (i 4 : Fin 16384)) ?_)
  split
  · exact EReal.coe_lt_top _
  · exact bot_lt_top

include hq hk in
/-- A row of the softmax: positive weights over their sum. -/
theorem soft_at (b : Fin 2) (h : Fin 4) (u : Fin 2) (n : Fin 16384) :
    ∃ c : ℝ, 0 < c ∧ ∀ k' : Fin 16384, softR (F := Ideal) (maskedR (F := Ideal) (scoreR (F := Ideal) q k)) (ix5 b h u n k')
      = ((expTo (scoreAt qr kr b h u n.val) n.val k'.val * c / ∑ j ∈ Finset.range 16384, expTo (scoreAt qr kr b h u n.val) n.val j * c : ℝ) : EReal) := by
  obtain ⟨M, hM⟩ := maxR_real b h u n _ (mask_lt hq hk) (by rw [mask_at hq hk, if_pos (show (0 : Fin 16384).val ≤ n.val from Nat.zero_le _)]; exact EReal.bot_lt_coe _)
  have hn : ∀ k' : Fin 16384, numR (F := Ideal) (maskedR (F := Ideal) (scoreR (F := Ideal) q k)) (ix5 b h u n k')
      = ((expTo (scoreAt qr kr b h u n.val) n.val k'.val * Real.exp (-M) : ℝ) : EReal) := by
    intro k'
    rw [numR_apply, hM, mask_at hq hk]
    unfold expTo
    split
    · rw [← EReal.coe_sub, Ideal.exp_coe, ← Real.exp_add, sub_eq_add_neg]
    · rw [EReal.bot_sub, zero_mul]; rfl
  have hs : ∑ k' : Fin 16384, numR (F := Ideal) (maskedR (F := Ideal) (scoreR (F := Ideal) q k)) (ix5 b h u n k')
      = ((∑ j ∈ Finset.range 16384, expTo (scoreAt qr kr b h u n.val) n.val j * Real.exp (-M) : ℝ) : EReal) := by
    rw [← Fin.sum_univ_eq_sum_range (fun j => expTo (scoreAt qr kr b h u n.val) n.val j * Real.exp (-M)), real_sum]
    exact Finset.sum_congr rfl fun k' _ => hn k'
  refine ⟨Real.exp (-M), Real.exp_pos _, fun k' => ?_⟩
  rw [softR_apply, hs, hn, Ideal.div_coe (scaled_sum_pos (f := fun j => expTo (scoreAt qr kr b h u n.val) n.val j * Real.exp (-M)) (Real.exp_pos _) fun _ => rfl).ne',
    ← EReal.coe_mul, mul_one_div]

include hq hk hv in
/-- An element before the normalization. -/
theorem mix_at (lam : FVec Ideal S_ .f32) (l : ℝ) (hl : ∀ i, lam i = ((l : ℝ) : EReal)) (b : Fin 2) (h : Fin 4) (n : Fin 16384) (e : Fin 256) :
    mixR (F := Ideal) (attnR (F := Ideal) lam (softR (F := Ideal) (maskedR (F := Ideal) (scoreR (F := Ideal) q k)))) v (ix4 b h n e)
      = ((diffAt qr kr vr l b h n.val e : ℝ) : EReal) := by
  obtain ⟨c0, p0, h0⟩ := soft_at hq hk b h 0 n
  obtain ⟨c1, p1, h1⟩ := soft_at hq hk b h 1 n
  rw [mixR_apply]
  unfold diffAt
  rw [← soft_of_scaled p0 (fun _ => rfl), ← soft_of_scaled p1 (fun _ => rfl)]
  generalize hS0 : ∑ j ∈ Finset.range 16384, expTo (scoreAt qr kr b h 0 n.val) n.val j * c0 = S0 at *
  generalize hS1 : ∑ j ∈ Finset.range 16384, expTo (scoreAt qr kr b h 1 n.val) n.val j * c1 = S1 at *
  rw [Finset.sum_div, Finset.sum_div, Finset.mul_sum, ← Finset.sum_sub_distrib,
    ← Fin.sum_univ_eq_sum_range (fun j => valAt vr b h e j * (expTo (scoreAt qr kr b h 0 n.val) n.val j * c0) / S0
      - l * (valAt vr b h e j * (expTo (scoreAt qr kr b h 1 n.val) n.val j * c1) / S1)), real_sum]
  refine Finset.sum_congr rfl fun k' _ => ?_
  rw [attnR_apply _ _ _ _ _ _ hl, h0, h1, hv, valAt_fin, ← EReal.coe_mul, ← EReal.coe_sub, ← EReal.coe_mul]
  refine congrArg Real.toEReal ?_
  ring

include hq hk hv in
theorem refOut_at (a b c d : FVec Ideal S1x128 .f32) (g : FVec Ideal S1x256 .f32) (l : ℝ)
    (hl : lamAt (fun k => a (ix2 (0 : Fin 1) k)) (fun k => b (ix2 (0 : Fin 1) k)) (fun k => c (ix2 (0 : Fin 1) k)) (fun k => d (ix2 (0 : Fin 1) k)) = ((l : ℝ) : EReal))
    (R : Fin 32768) (C : Fin 1024) (b' : Fin 2) (h' : Fin 4) (n : Fin 16384) (e : Fin 256) (hR : R.val = 16384 * b'.val + n.val)
    (hC : C.val = 256 * h'.val + e.val) :
    refOut (F := Ideal) q k v a b c d g (ix2 R C)
      = rmsAt (fun e' => ((diffAt qr kr vr l b' h' n.val e' : ℝ) : EReal)) (fun e' => g (ix2 (0 : Fin 1) e')) e := by
  have hn := n.isLt
  have he := e.isLt
  have e1 : ∀ p, (⟨R.val / 16384, p⟩ : Fin 2) = b' := fun p => Fin.ext (by show R.val / 16384 = b'.val; omega)
  have e2 : ∀ p, (⟨C.val / 256, p⟩ : Fin 4) = h' := fun p => Fin.ext (by show C.val / 256 = h'.val; omega)
  have e3 : ∀ p, (⟨R.val % 16384, p⟩ : Fin 16384) = n := fun p => Fin.ext (by show R.val % 16384 = n.val; omega)
  have e4 : ∀ p, (⟨C.val % 256, p⟩ : Fin 256) = e := fun p => Fin.ext (by show C.val % 256 = e.val; omega)
  unfold refOut
  rw [layR_apply, e1, e2, e3, e4, normR_apply]
  refine congrArg (fun o => rmsAt o (fun e' => g (ix2 (0 : Fin 1) e')) e) (funext fun e' => ?_)
  exact mix_at hq hk hv _ l (fun i => (lamR_apply a b c d i).trans hl) b' h' n e'

end Value

end Cert.ReferenceIdeal.Hand
-- ==== Proof.Value.lean ====
/- The kernel's output array is the reference's result, the arguments real. -/
module

public import proofs.«01_k».proof.Proof.Point
public import proofs.«01_k».proof.Proof.Fetch
public import proofs.«01_k».proof.Proof.RefVal

@[expose] public section

noncomputable section

namespace Cert.KernelIdeal.Hand

open Cert.KernelIdeal
open Idealize.ShloMosaic Idealize.ShloMosaic.TcCoe Idealize.ShloMosaic.Pipeline Idealize.SL.Sem
open Facts₀ Facts
open Cert.ReferenceIdeal.Hand (refOut refOut_at)

section Value
variable (m : (ℓ : Loc nD τ sig) → Buf (Elt Ideal) ℓ) (c : Dev nD)

/-- The arguments the result depends on, with real entries. -/
structure RealArgs (qr kr : S2x4x2x16384x128.Idx → ℝ) (vr : S2x4x16384x256.Idx → ℝ) (lr : Fin 4 → Fin 128 → ℝ) : Prop where
  q : ∀ i, (m ((c.tc : Thread nD τ).loc main_arg0) : FVec Ideal S2x4x2x16384x128 .f32) i = ((qr i : ℝ) : EReal)
  k : ∀ i, (m ((c.tc : Thread nD τ).loc main_arg1) : FVec Ideal S2x4x2x16384x128 .f32) i = ((kr i : ℝ) : EReal)
  v : ∀ i, (m ((c.tc : Thread nD τ).loc main_arg2) : FVec Ideal S2x4x16384x256 .f32) i = ((vr i : ℝ) : EReal)
  l0 : ∀ i, (m ((c.tc : Thread nD τ).loc main_arg3) : FVec Ideal S1x128 .f32) (ix2 (0 : Fin 1) i) = ((lr 0 i : ℝ) : EReal)
  l1 : ∀ i, (m ((c.tc : Thread nD τ).loc main_arg4) : FVec Ideal S1x128 .f32) (ix2 (0 : Fin 1) i) = ((lr 1 i : ℝ) : EReal)
  l2 : ∀ i, (m ((c.tc : Thread nD τ).loc main_arg5) : FVec Ideal S1x128 .f32) (ix2 (0 : Fin 1) i) = ((lr 2 i : ℝ) : EReal)
  l3 : ∀ i, (m ((c.tc : Thread nD τ).loc main_arg6) : FVec Ideal S1x128 .f32) (ix2 (0 : Fin 1) i) = ((lr 3 i : ℝ) : EReal)

/-- The reference's result of the kernel's arguments. -/
def target : FVec Ideal S32768x1024 .bf16 :=
  refOut (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

variable {m c} {qr kr : S2x4x2x16384x128.Idx → ℝ} {vr : S2x4x16384x256.Idx → ℝ} {lr : Fin 4 → Fin 128 → ℝ}

/-- The weight of the difference is real. -/
theorem lam_real (A B C D : Fin 128 → EReal) (hA : ∀ i, A i = ((lr 0 i : ℝ) : EReal)) (hB : ∀ i, B i = ((lr 1 i : ℝ) : EReal))
    (hC : ∀ i, C i = ((lr 2 i : ℝ) : EReal)) (hD : ∀ i, D i = ((lr 3 i : ℝ) : EReal)) : ∃ l : ℝ, lamAt A B C D = ((l : ℝ) : EReal) := by
  obtain ⟨r, hr⟩ := ofBits_fifth
  refine ⟨Real.exp (∑ i, lr 0 i * lr 1 i) - Real.exp (∑ i, lr 2 i * lr 3 i) + r, ?_⟩
  unfold lamAt
  simp only [hA, hB, hC, hD, hr, ← EReal.coe_mul]
  rw [← real_sum, ← real_sum, Ideal.exp_coe, Ideal.exp_coe, ← EReal.coe_sub, ← EReal.coe_add]

/-- Which half, as an index. -/
def half (u : Bool) : Fin 2 := if u then 1 else 0

/-- A query over the scale, of the block at a grid point. -/
def qPt (qr : S2x4x2x16384x128.Idx → ℝ) (t : Fin cfg0.N) (u : Bool) (d : Fin 128) (x : ℕ) : ℝ :=
  at5 qr (bAt t) (hAt t) (half u) (1024 * (iAt t).val + x) d * (1 / (Real.sqrt 128 * Real.log 2))
/-- A key, of the block at a grid point. -/
def kPt (kr : S2x4x2x16384x128.Idx → ℝ) (t : Fin cfg0.N) (u : Bool) (n : ℕ) (d : Fin 128) : ℝ := at5 kr (bAt t) (hAt t) (half u) n d
/-- A stacked value: the values, the row of ones, zeros. -/
def vPt (vr : S2x4x16384x256.Idx → ℝ) (t : Fin cfg0.N) (e : Fin 272) (n : ℕ) : ℝ :=
  if h : e.val < 256 then valAt vr (bAt t) (hAt t) ⟨e.val, h⟩ n else if e.val = 256 then 1 else 0

theorem scale_pos : Real.sqrt 128 * Real.log 2 ≠ 0 := mul_ne_zero (by positivity) (Real.log_pos (by norm_num)).ne'

theorem scale_eq : Ideal.sqrt (Ideal.ofBits .f32 0x43000000#32) * Ideal.log (Ideal.ofBits .f32 0x40000000#32) = ((Real.sqrt 128 * Real.log 2 : ℝ) : EReal) := by
  rw [sqrt_128, log_two, EReal.coe_mul]

theorem real_qk (h : RealArgs m c qr kr vr lr) (t : Fin cfg0.N) : RealQK (insAt m c t) (qPt qr t) (kPt kr t) where
  qa d x := by
    rw [ins_qa, h.q, scale_eq, Ideal.div_coe scale_pos, ← EReal.coe_mul, ← at5_fin qr]
    rfl
  qb d x := by
    rw [ins_qb, h.q, scale_eq, Ideal.div_coe scale_pos, ← EReal.coe_mul, ← at5_fin qr]
    rfl
  ka n d := by
    rw [ins_ka, h.k, ← at5_fin kr]
    rfl
  kb n d := by
    rw [ins_kb, h.k, ← at5_fin kr]
    rfl

theorem real_values (h : RealArgs m c qr kr vr lr) (t : Fin cfg0.N) : RealValues (insAt m c t) (vPt vr t) := by
  intro e n
  have he := e.isLt
  unfold vPt
  by_cases h1 : e.val < 128
  · rw [dif_pos h1, ins_vl, dif_pos (by omega)]
    unfold valRow
    rw [dif_pos (show e.val < 128 from h1), h.v, valAt_fin]
    refine congrArg (fun y : Fin 256 => ((vr (ix4 (bAt t) (hAt t) n y) : ℝ) : EReal)) (Fin.ext ?_)
    show 128 * 0 + e.val = e.val
    omega
  · rw [dif_neg h1, ins_vh]
    unfold valRow
    by_cases h2 : e.val < 256
    · rw [dif_pos h2, dif_pos (show e.val - 128 < 128 by omega), h.v, valAt_fin]
      refine congrArg (fun y : Fin 256 => ((vr (ix4 (bAt t) (hAt t) n y) : ℝ) : EReal)) (Fin.ext ?_)
      show 128 * 1 + (e.val - 128) = e.val
      omega
    · rw [dif_neg h2, dif_neg (show ¬ e.val - 128 < 128 by omega)]
      by_cases h3 : e.val = 256
      · rw [if_pos h3, if_pos (show e.val - 128 = 128 by omega)]
      · rw [if_neg h3, if_neg (show ¬ e.val - 128 = 128 by omega)]

/-- The kernel's scores are the scaled scores over the logarithm of two. -/
theorem pt_scores (qr kr : S2x4x2x16384x128.Idx → ℝ) (t : Fin cfg0.N) (X : ℕ) (u : Bool) (n : ℕ) :
    ∑ d, kPt kr t u n d * qPt qr t u d X = scoreAt qr kr (bAt t) (hAt t) (half u) (1024 * (iAt t).val + X) n / Real.log 2 := by
  unfold kPt qPt scoreAt
  rw [Finset.sum_div, Finset.sum_div]
  refine Finset.sum_congr rfl fun d _ => ?_
  have h1 : Real.sqrt 128 ≠ 0 := by positivity
  have h2 : Real.log 2 ≠ 0 := (Real.log_pos (by norm_num)).ne'
  field_simp

/-- What a grid point writes is the reference's block. -/
theorem point_eq (h : RealArgs m c qr kr vr lr) (t : Fin cfg0.N) (X : Fin 1024) (e : Fin 256) (R : Fin 32768) (C : Fin 1024)
    (hR : R.val = (16 * (grid0.coords t 0).val + (grid0.coords t 2).val) * 1024 + X.val) (hC : C.val = (grid0.coords t 1).val * 256 + e.val) :
    outF (insAt m c t) (cOf (grid0.coords t)) (ix2 X e) = target m c (ix2 R C) := by
  obtain ⟨l, hl⟩ := lam_real (lr := lr) _ _ _ _ h.l0 h.l1 h.l2 h.l3
  have hi : (iAt t).val < 16 := (iAt t).isLt
  have hX := X.isLt
  unfold target
  rw [refOut_at h.q h.k h.v _ _ _ _ _ l hl R C (bAt t) (hAt t) (⟨1024 * (iAt t).val + X.val, by omega⟩ : Fin 16384) e
    (by rw [hR]; show (16 * (bAt t).val + (iAt t).val) * 1024 + X.val = 16384 * (bAt t).val + (1024 * (iAt t).val + X.val); omega)
    (by rw [hC]; exact congrArg (· + e.val) (Nat.mul_comm _ _))]
  have hl' : lamV (F := Ideal) (insAt m c t).la (insAt m c t).lb (insAt m c t).lc (insAt m c t).ld (ix2 (0 : Fin 1) (0 : Fin 1)) = ((l : ℝ) : EReal) := by
    rw [lamV_apply]
    simp only [ins_la, ins_lb, ins_lc, ins_ld]
    exact hl
  refine (outF_at (real_qk h t) (real_values h t) (fun k => ?_) hi X
    (fun u => scoreAt qr kr (bAt t) (hAt t) (half u) (1024 * (iAt t).val + X.val)) (fun u k => pt_scores qr kr t X.val u k) l hl' e).trans ?_
  · rfl
  have eg : (fun e' : Fin 256 => ((insAt m c t).g (ix2 e' (0 : Fin 1)) : EReal))
      = fun e' => (m ((c.tc : Thread nD τ).loc main_arg7) : FVec Ideal S1x256 .f32) (ix2 (0 : Fin 1) e') := funext fun e' => ins_g m c t e'
  rw [eg]
  refine congrArg (fun o => rmsAt o _ e) (funext fun e' => ?_)
  have ev : vPt vr t ⟨e'.val, by omega⟩ = valAt vr (bAt t) (hAt t) e' := funext fun n => dif_pos e'.isLt
  rw [ev]
  rfl

/-- The output array after the run. -/
theorem out_eq (h : RealArgs m c qr kr vr lr) : (dats m 0 c).arrAt 11 cfg0.N = target m c := by
  refine (dats m 0 c).arrAt_eq_of_covers 11 (target m c) (by decide +kernel) fun t hf y => ?_
  obtain ⟨X, e, rfl⟩ : ∃ (X : Fin 1024) (e : Fin 256), y = ix2 X e := ⟨y 0, y 1, by funext a; fin_cases a <;> rfl⟩
  obtain ⟨h0, h1, h2⟩ := coord_lt t
  have hX := X.isLt
  have he := e.isLt
  refine Eq.trans ?_ ((point_eq h t X e ⟨(16 * (grid0.coords t 0).val + (grid0.coords t 2).val) * 1024 + X.val, by omega⟩
    ⟨(grid0.coords t 1).val * 256 + e.val, by omega⟩ rfl rfl).trans ?_)
  · rfl
  · blk_simp
    refine congrArg (target m c) ?_
    blk_ext [e11]

end Value

end Cert.KernelIdeal.Hand
-- ==== Proof.Finite.lean ====
/- What the precondition gives: the arguments it names are real. -/
module

public import proofs.«01_k».proof.Defs
public import proofs.«01_k».proof.Proof.Value

@[expose] public section

noncomputable section

namespace Cert.KernelIdeal.Hand

open Idealize.ShloMosaic Idealize.ShloMosaic.TcCoe Idealize.SL.Sem

instance preFacts : Cert.Pre_finite.Facts := ⟨by decide, by decide, by decide⟩

/-- An element whose absolute value is below plus infinity is real. -/
theorem real_of_one (a : EReal) (h : FloatOps.cmpf (F := Ideal) (φ := .f32) .olt (FloatOps.hostAbsf (F := Ideal) (φ := .f32) a) (Ideal.ofBits .f32 0x7F800000#32) = 1#1) :
    a = ((a.toReal : ℝ) : EReal) := by
  have e : Ideal.ofBits .f32 0x7F800000#32 = (⊤ : EReal) := by
    simp [Ideal.ofBits, Ideal.ieee]
  rw [e] at h
  induction a using EReal.rec with
  | bot => exact absurd h (by simp [FloatOps.cmpf, FloatOps.hostAbsf, Ideal.cmp])
  | top => exact absurd h (by simp [FloatOps.cmpf, FloatOps.hostAbsf, Ideal.cmp])
  | coe r => rfl

theorem real_of_pre (m : (ℓ : Loc Cert.KernelIdeal.nD Cert.KernelIdeal.τ Cert.KernelIdeal.sig) → Buf (Elt Ideal) ℓ) (h : Cert.Pre_KernelIdeal_finite m)
    (c : Dev Cert.KernelIdeal.nD) : ∃ qr kr vr lr, RealArgs m c qr kr vr lr := by
  obtain ⟨h0, h1, h2, h3, h4, h5, h6⟩ := h c
  exact ⟨_, _, _, fun n i => match n with
      | 0 => EReal.toReal ((m ((c.tc : Thread Cert.KernelIdeal.nD Cert.KernelIdeal.τ).loc Cert.KernelIdeal.main_arg3) : FVec Ideal Cert.KernelIdeal.S1x128 .f32) (ix2 (0 : Fin 1) i))
      | 1 => EReal.toReal ((m ((c.tc : Thread Cert.KernelIdeal.nD Cert.KernelIdeal.τ).loc Cert.KernelIdeal.main_arg4) : FVec Ideal Cert.KernelIdeal.S1x128 .f32) (ix2 (0 : Fin 1) i))
      | 2 => EReal.toReal ((m ((c.tc : Thread Cert.KernelIdeal.nD Cert.KernelIdeal.τ).loc Cert.KernelIdeal.main_arg5) : FVec Ideal Cert.KernelIdeal.S1x128 .f32) (ix2 (0 : Fin 1) i))
      | 3 => EReal.toReal ((m ((c.tc : Thread Cert.KernelIdeal.nD Cert.KernelIdeal.τ).loc Cert.KernelIdeal.main_arg6) : FVec Ideal Cert.KernelIdeal.S1x128 .f32) (ix2 (0 : Fin 1) i)),
    { q := fun i => real_of_one _ (congrFun h0 i)
      k := fun i => real_of_one _ (congrFun h1 i)
      v := fun i => real_of_one _ (congrFun h2 i)
      l0 := fun i => real_of_one _ (congrFun h3 (ix2 (0 : Fin 1) i))
      l1 := fun i => real_of_one _ (congrFun h4 (ix2 (0 : Fin 1) i))
      l2 := fun i => real_of_one _ (congrFun h5 (ix2 (0 : Fin 1) i))
      l3 := fun i => real_of_one _ (congrFun h6 (ix2 (0 : Fin 1) i)) }⟩

end Cert.KernelIdeal.Hand
-- ==== Proof.Mlp.lean ====
/- The feed-forward kernel's result, element by element, in exact arithmetic: the sum over the hidden units,
   folded over the eight stretches of a run, is the reference's sum. -/
module

public import proofs.«01_k».proof.Proof.Gen.Kernel2Ideal.Value
public import proofs.«01_k».proof.Proof.Gen.Reference2Ideal.Run
public import Idealize.ShloMosaic.PureOps.Ideal
public import Idealize.ShloMosaic.Lib.StableHlo.RunRead
public import Idealize.ShloMosaic.Lib.Pointwise
public import Idealize.ShloMosaic.Lib.Pipeline.ValueKit.Geometry

@[expose] public section

noncomputable section

/-- The square of the positive part. -/
def Cert.Mlp.sqPos (a : EReal) : EReal := max a 0 * max a 0

/-- Hidden unit `f`'s share of an element of the result, from a row of the input, the unit's weights and its output weight. -/
def Cert.Mlp.share (x : Fin 2048 → EReal) (w : Fin 2048 → Fin 8192 → EReal) (o : Fin 8192 → EReal) (f : ℕ) : EReal :=
  if h : f < 8192 then Cert.Mlp.sqPos (∑ d, x d * w d ⟨f, h⟩) * o ⟨f, h⟩ else 0

namespace Cert.Reference2Ideal.Hand

open Cert.Reference2Ideal
open Idealize.ShloMosaic Idealize.ShloMosaic.TcCoe Idealize.SL.Sem
open Facts₀ Facts
open Cert.Mlp

/-- The hidden units of the reference. -/
def hidR (u : FVec Ideal S2x16384x2048 .f32) (w : FVec Ideal S1x2048x8192 .f32) : FVec Ideal S2x16384x8192 .f32 :=
  maximumf (Host.dotGeneral dot_S2x16384x2048_S2048x8192_S2x16384x8192_2_0_01_1_n_n none u (shapeCast S2048x8192 w shapeCasts_S1x2048x8192_S2048x8192))
    (broadcastInDim S2x16384x8192 ![] bcast_S_S2x16384x8192 (constant S_ .f32 0x00000000#32))

/-- The reference's result. -/
def outR (u : FVec Ideal S2x16384x2048 .f32) (w : FVec Ideal S1x2048x8192 .f32) (o : FVec Ideal S1x8192x2048 .f32) : FVec Ideal S32768x2048 .f32 :=
  shapeCast S32768x2048 (Host.dotGeneral dot_S2x16384x8192_S8192x2048_S2x16384x2048_2_0_01_1_n_n none (mulf (hidR u w) (hidR u w))
    (shapeCast S8192x2048 o shapeCasts_S1x8192x2048_S8192x2048)) shapeCasts_S2x16384x2048_S32768x2048

theorem hidR_apply (u : FVec Ideal S2x16384x2048 .f32) (w : FVec Ideal S1x2048x8192 .f32) (b : Fin 2) (k : Fin 16384) (f : Fin 8192) :
    hidR u w (ix3 b k f) = max (∑ d : Fin 2048, u (ix3 b k d) * w (ix3 (0 : Fin 1) d f)) (Ideal.ofBits .f32 0x00000000#32) := by
  pointwise [hidR]

theorem outR_apply (u : FVec Ideal S2x16384x2048 .f32) (w : FVec Ideal S1x2048x8192 .f32) (o : FVec Ideal S1x8192x2048 .f32)
    (R : Fin 32768) (C : Fin 2048) (b : Fin 2) (k : Fin 16384) (hb : b.val = R.val / 16384) (hk : k.val = R.val % 16384) :
    outR u w o (ix2 R C) = ∑ f : Fin 8192, hidR u w (ix3 b k f) * hidR u w (ix3 b k f) * o (ix3 (0 : Fin 1) f C) := by
  have e : outR u w o (ix2 R C) = ∑ f : Fin 8192, hidR u w (ix3 (⟨R.val / 16384, by omega⟩ : Fin 2) (⟨R.val % 16384, by omega⟩ : Fin 16384) f)
      * hidR u w (ix3 (⟨R.val / 16384, by omega⟩ : Fin 2) (⟨R.val % 16384, by omega⟩ : Fin 16384) f) * o (ix3 (0 : Fin 1) f C) := by
    pointwise [outR]
  rw [e, ← Fin.ext (a := b) (b := ⟨R.val / 16384, by omega⟩) hb, ← Fin.ext (a := k) (b := ⟨R.val % 16384, by omega⟩) hk]

theorem outR_eq (u : FVec Ideal S2x16384x2048 .f32) (w : FVec Ideal S1x2048x8192 .f32) (o : FVec Ideal S1x8192x2048 .f32)
    (R : Fin 32768) (C : Fin 2048) (b : Fin 2) (k : Fin 16384) (hb : b.val = R.val / 16384) (hk : k.val = R.val % 16384) :
    outR u w o (ix2 R C) = ∑ f ∈ Finset.range 8192,
      share (fun d => u (ix3 b k d)) (fun d f => w (ix3 (0 : Fin 1) d f)) (fun f => o (ix3 (0 : Fin 1) f C)) f := by
  rw [outR_apply u w o R C b k hb hk, Finset.sum_range]
  refine Finset.sum_congr rfl fun f _ => ?_
  unfold share sqPos
  rw [dif_pos f.isLt, hidR_apply, Ideal.ofBits_zero_f32]

end Cert.Reference2Ideal.Hand

namespace Cert.Kernel2Ideal.Hand

open Cert.Kernel2Ideal
open Idealize.ShloMosaic Idealize.ShloMosaic.TcCoe Idealize.ShloMosaic.Pipeline Idealize.SL.Sem
open Facts₀ Facts
open Cert.Kernel2Ideal.Gen (V iblk k0_pay1 k0_pay2)
open Cert.Kernel2Ideal.Value (reset3 step3 G3 run3Of loc3Of)
open Cert.Mlp

/-- What a grid point adds to an element. -/
theorem pay2_apply (x : FVec Ideal S1024x2048 .bf16) (w : FVec Ideal S2048x1024 .bf16) (acc : FVec Ideal S1024x2048 .f32) (o : FVec Ideal S1024x2048 .bf16)
    (r : Fin 1024) (C : Fin 2048) :
    k0_pay2 (F := Ideal) x w acc o (ix2 r C) = acc (ix2 r C) + ∑ f : Fin 1024,
      max (∑ d : Fin 2048, x (ix2 r d) * w (ix2 d f)) (Ideal.ofBits .f32 0x00000000#32)
        * max (∑ d : Fin 2048, x (ix2 r d) * w (ix2 d f)) (Ideal.ofBits .f32 0x00000000#32) * o (ix2 f C) := by
  pointwise [k0_pay2]

theorem pay1_apply (i : S1024x2048.Idx) : k0_pay1 (F := Ideal) i = 0 := Ideal.ofBits_zero_f32

section Blocks
variable (m : (ℓ : Loc nD τ sig) → Buf (Elt Ideal) ℓ) (c : Dev nD)

/-- The arguments. -/
abbrev argU : FVec Ideal S2x16384x2048 .f32 := m ((c.tc : Thread nD τ).loc main_arg0)
abbrev argW : FVec Ideal S1x2048x8192 .f32 := m ((c.tc : Thread nD τ).loc main_arg1)
abbrev argO : FVec Ideal S1x8192x2048 .f32 := m ((c.tc : Thread nD τ).loc main_arg2)

def inH (u : FVec Ideal S2x16384x2048 .f32) : FVec Ideal S32768x2048 .bf16 :=
  truncf .bf16 (shapeCast S32768x2048 u shapeCasts_S2x16384x2048_S32768x2048) bitsLt_bf16_f32
def upH (w : FVec Ideal S1x2048x8192 .f32) : FVec Ideal S2048x8192 .bf16 :=
  truncf .bf16 (shapeCast S2048x8192 w shapeCasts_S1x2048x8192_S2048x8192) bitsLt_bf16_f32
def downH (o : FVec Ideal S1x8192x2048 .f32) : FVec Ideal S8192x2048 .bf16 :=
  truncf .bf16 (shapeCast S8192x2048 o shapeCasts_S1x8192x2048_S8192x2048) bitsLt_bf16_f32

theorem V_v1 : V m c main_v1 = inH (argU m c) := by entry_read; rfl
theorem V_v3 : V m c main_v3 = upH (argW m c) := by entry_read; rfl
theorem V_v5 : V m c main_v5 = downH (argO m c) := by entry_read; rfl

theorem inH_apply (u : FVec Ideal S2x16384x2048 .f32) (R : Fin 32768) (d : Fin 2048) :
    inH u (ix2 R d) = u (ix3 (⟨R.val / 16384, by omega⟩ : Fin 2) (⟨R.val % 16384, by omega⟩ : Fin 16384) d) := by
  pointwise [inH]
theorem upH_apply (w : FVec Ideal S1x2048x8192 .f32) (d : Fin 2048) (f : Fin 8192) : upH w (ix2 d f) = w (ix3 (0 : Fin 1) d f) := by
  pointwise [upH]
theorem downH_apply (o : FVec Ideal S1x8192x2048 .f32) (f : Fin 8192) (C : Fin 2048) : downH o (ix2 f C) = o (ix3 (0 : Fin 1) f C) := by
  pointwise [downH]

theorem e0 : ∀ t : Fin cfg0.N, win0_0.index t = ![t.val / 8, 0] := (by decide +kernel : ∀ t : Fin grid0.N, _)
theorem e1 : ∀ t : Fin cfg0.N, win0_1.index t = ![0, t.val % 8] := (by decide +kernel : ∀ t : Fin grid0.N, _)
theorem e2 : ∀ t : Fin cfg0.N, win0_2.index t = ![t.val % 8, 0] := (by decide +kernel : ∀ t : Fin grid0.N, _)

variable (t : Fin cfg0.N)

theorem blk_in (r : Fin 1024) (d : Fin 2048) (b : Fin 2) (k : Fin 16384) (h : 16384 * b.val + k.val = 1024 * (t.val / 8) + r.val) :
    iblk m c 0 t (ix2 r d) = argU m c (ix3 b k d) := by
  have hb := b.isLt
  have hk := k.isLt
  have e : iblk m c 0 t (ix2 r d) = inH (argU m c) (ix2 (⟨(t.val / 8) * 1024 + r.val, by omega⟩ : Fin 32768) d) := by
    blk_simp [iblk]
    rw [V_v1]
    refine congrArg _ ?_
    blk_ext [e0]
  rw [e, inH_apply]
  have h1 : ∀ p, (⟨((t.val / 8) * 1024 + r.val) / 16384, p⟩ : Fin 2) = b := fun p => Fin.ext (by show ((t.val / 8) * 1024 + r.val) / 16384 = b.val; omega)
  have h2 : ∀ p, (⟨((t.val / 8) * 1024 + r.val) % 16384, p⟩ : Fin 16384) = k := fun p => Fin.ext (by show ((t.val / 8) * 1024 + r.val) % 16384 = k.val; omega)
  rw [h1, h2]

theorem blk_up (d : Fin 2048) (f : Fin 1024) :
    iblk m c 1 t (ix2 d f) = argW m c (ix3 (0 : Fin 1) d (⟨t.val % 8 * 1024 + f.val, by omega⟩ : Fin 8192)) := by
  have e : iblk m c 1 t (ix2 d f) = upH (argW m c) (ix2 d (⟨t.val % 8 * 1024 + f.val, by omega⟩ : Fin 8192)) := by
    blk_simp [iblk]
    rw [V_v3]
    refine congrArg _ ?_
    blk_ext [e1]
  rw [e, upH_apply]

theorem blk_down (f : Fin 1024) (C : Fin 2048) :
    iblk m c 2 t (ix2 f C) = argO m c (ix3 (0 : Fin 1) (⟨t.val % 8 * 1024 + f.val, by omega⟩ : Fin 8192) C) := by
  have e : iblk m c 2 t (ix2 f C) = downH (argO m c) (ix2 (⟨t.val % 8 * 1024 + f.val, by omega⟩ : Fin 8192) C) := by
    blk_simp [iblk]
    rw [V_v5]
    refine congrArg _ ?_
    blk_ext [e2]
  rw [e, downH_apply]

/-- A hidden unit's share of an element of the kernel's result. -/
abbrev shareAt (b : Fin 2) (k : Fin 16384) (C : Fin 2048) : ℕ → EReal :=
  share (fun d => argU m c (ix3 b k d)) (fun d f => argW m c (ix3 (0 : Fin 1) d f)) (fun f => argO m c (ix3 (0 : Fin 1) f C))

/-- A grid point adds the shares of its 1024 hidden units. -/
theorem point_adds (acc : FVec Ideal S1024x2048 .f32) (r : Fin 1024) (C : Fin 2048) (b : Fin 2) (k : Fin 16384)
    (h : 16384 * b.val + k.val = 1024 * (t.val / 8) + r.val) :
    k0_pay2 (F := Ideal) (iblk m c 0 t) (iblk m c 1 t) acc (iblk m c 2 t) (ix2 r C)
      = acc (ix2 r C) + ∑ f ∈ Finset.range 1024, shareAt m c b k C (t.val % 8 * 1024 + f) := by
  rw [pay2_apply, Finset.sum_range]
  refine congrArg _ (Finset.sum_congr rfl fun f _ => ?_)
  have hf := f.isLt
  unfold shareAt share sqPos
  rw [dif_pos (by omega), blk_down m c t f C, Ideal.ofBits_zero_f32]
  simp only [blk_in m c t r _ b k h, blk_up m c t]

/-- A run's points add up the shares of all the hidden units below the next point's. -/
theorem run_adds (q : ℕ) (r : Fin 1024) (C : Fin 2048) (b : Fin 2) (k : Fin 16384) (h : 16384 * b.val + k.val = 1024 * q + r.val) :
    ∀ (j : ℕ) (hj : j < 8) (hN : 8 * q + j < cfg0.N),
      accAt (reset3 m c) (step3 m c) (8 * q) j hN (ix2 r C) = ∑ f ∈ Finset.range ((j + 1) * 1024), shareAt m c b k C f
  | 0, _, hN => by
    rw [accAt_zero]
    refine (point_adds m c ⟨8 * q, hN⟩ _ r C b k (by show _ = 1024 * (8 * q / 8) + r.val; omega)).trans ?_
    rw [pay1_apply, zero_add]
    refine Finset.sum_congr (by norm_num) fun f _ => congrArg _ ?_
    show 8 * q % 8 * 1024 + f = f
    omega
  | j + 1, hj, hN => by
    rw [accAt_succ]
    refine (point_adds m c ⟨8 * q + (j + 1), hN⟩ _ r C b k (by show _ = 1024 * ((8 * q + (j + 1)) / 8) + r.val; omega)).trans ?_
    rw [run_adds q r C b k h j (by omega) (by omega), Nat.add_mul (j + 1) 1 1024, Nat.one_mul, Finset.sum_range_add]
    refine congrArg _ (Finset.sum_congr rfl fun f _ => congrArg _ ?_)
    show (8 * q + (j + 1)) % 8 * 1024 + f = (j + 1) * 1024 + f
    omega

/-- The kernel's result is the reference's. -/
theorem result_eq : G3 m c = Cert.Reference2Ideal.Hand.outR (argU m c) (argW m c) (argO m c) := by
  refine funext fun i => ?_
  obtain ⟨R, C, rfl⟩ : ∃ (R : Fin 32768) (C : Fin 2048), i = ix2 R C := ⟨i 0, i 1, funext fun a => by
    match a with
    | ⟨0, _⟩ => rfl
    | ⟨1, _⟩ => rfl⟩
  have hR := R.isLt
  have hC := C.isLt
  have hq : run3Of (ix2 R C) = R.val / 1024 := by
    show 1 * (R.val / 1024 - 0) + 1 * (C.val / 2048 - 0) = R.val / 1024
    omega
  have hl : loc3Of (ix2 R C) = ix2 (⟨R.val % 1024, by omega⟩ : Fin 1024) C := funext fun a => by
    match a with
    | ⟨0, _⟩ => rfl
    | ⟨1, _⟩ => exact Fin.ext (Nat.mod_eq_of_lt hC)
  have hN : cfg0.N = 256 := Cert.Kernel2Ideal.Gen.N_0
  unfold G3
  rw [dif_pos (by rw [hq, hN]; omega), hl]
  refine (run_adds m c (run3Of (ix2 R C)) _ C ⟨R.val / 16384, by omega⟩ ⟨R.val % 16384, by omega⟩ (by
    rw [hq]
    show 16384 * (R.val / 16384) + R.val % 16384 = 1024 * (R.val / 1024) + R.val % 1024
    omega) 7 (by omega) _).trans ?_
  exact (Cert.Reference2Ideal.Hand.outR_eq _ _ _ R C ⟨R.val / 16384, by omega⟩ ⟨R.val % 16384, by omega⟩ rfl rfl).symm

end Blocks

end Cert.Kernel2Ideal.Hand

end
-- ==== Proof.MlpSame.lean ====
/- The feed-forward program as printed and its idealization have the same text: the frame of one is the frame of the other. -/
module

public import proofs.«01_k».proof.Defs
public import proofs.«01_k».proof.Proof.Gen.Kernel2
public import proofs.«01_k».proof.Proof.Gen.Kernel2Ideal.Frame

@[expose] public section

noncomputable section

namespace Cert.Kernel2Ideal.Hand

open Idealize.ShloMosaic Idealize.SL.Sem

set_option maxHeartbeats 0 in
theorem body_same : (Cert.Kernel2Ideal.cc0_mlp (F := Bits)) = Cert.Kernel2.cc0_mlp (F := Bits) := rfl

set_option maxHeartbeats 0 in
theorem defs₀_same : (Cert.Kernel2Ideal.defs₀ (F := Bits)) = Cert.Kernel2.defs₀ (F := Bits) := by
  unfold Cert.Kernel2.defs₀ Cert.Kernel2Ideal.defs₀
  refine congrArg Defs.onTc (funext fun l => funext fun a => ?_)
  match l, a with
  | ⟨0, _⟩, (t, s) =>
    dsimp only
    rw [body_same]
    rfl
  | ⟨n + 1, h⟩, _ => exact absurd h (Nat.not_lt.2 (Nat.le_add_left _ _))

set_option maxHeartbeats 0 in
theorem defs_same : (Cert.Kernel2Ideal.defs (F := Bits)) = Cert.Kernel2.defs (F := Bits) :=
  congrArg (Idealize.ShloMosaic.Pipeline.defs Cert.Kernel2Ideal.pcfgs) defs₀_same

set_option maxHeartbeats 0 in
theorem main_same : (Cert.Kernel2Ideal.main (F := Bits)) = Cert.Kernel2.main (F := Bits) := rfl

set_option maxHeartbeats 0 in
theorem frame_printed : Cert.quiescent_Kernel2 := fun m ρ _ => by
  have h := Cert.Kernel2Ideal.Gen.frame (F := Bits) m ρ
  rw [defs_same, main_same] at h
  exact h

end Cert.Kernel2Ideal.Hand

end
-- ==== Proof.lean ====
/- The claims of this certificate, each from the run that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Frame
public import proofs.«01_k».proof.Proof.Same
public import proofs.«01_k».proof.Proof.RefRun
public import proofs.«01_k».proof.Proof.Finite
public import proofs.«01_k».proof.Proof.Mlp
public import proofs.«01_k».proof.Proof.MlpSame

@[expose] public section

noncomputable section

namespace Cert.Proof

open Idealize.ShloMosaic Idealize.SL.Sem

theorem frame_ideal : Cert.quiescent_KernelIdeal := fun m ρ _ => Cert.KernelIdeal.Hand.frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run_main (F := Ideal) m ρ)

/-- The kernel's result and the reference's are one array. -/
theorem algebraic : Cert.algebraic_KernelIdeal_ReferenceIdeal_pre_finite := by
  intro m ρ m' ρ' hpre hm
  refine ⟨fun c => Cert.KernelIdeal.Hand.target m c, ?_, ?_⟩
  · refine (θ_run Cert.KernelIdeal.defs _ _).mono (fun r h c => ?_) (Cert.KernelIdeal.Hand.run_main (F := Ideal) m ρ)
    obtain ⟨_, _, _, _, hr⟩ := Cert.KernelIdeal.Hand.real_of_pre m hpre c
    exact ⟨(h.1.out_eq c 11).trans (Cert.KernelIdeal.Hand.out_eq hr), Cert.KernelIdeal.Hand.args_eq m h.1 c⟩
  · refine (θ_run Cert.ReferenceIdeal.defs _ _).mono (fun r h c => ⟨(h c).1.trans ?_, (h c).2⟩) (Cert.ReferenceIdeal.Hand.run_main (F := Ideal) m' ρ')
    obtain ⟨e0, e1, e2, e3, e4, e5, e6, e7⟩ := hm c
    rw [e0, e1, e2, e3, e4, e5, e6, e7]
    rfl

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's result and the reference's are one array. -/
theorem algebraic2 : Cert.algebraic_Kernel2Ideal_Reference2Ideal := by
  intro m ρ m' ρ' _ hm
  refine ⟨fun c => Cert.Reference2Ideal.Hand.outR (Cert.Kernel2Ideal.Hand.argU m c) (Cert.Kernel2Ideal.Hand.argW m c) (Cert.Kernel2Ideal.Hand.argO m c), ?_, ?_⟩
  · exact (θ_run Cert.Kernel2Ideal.defs _ _).mono (fun r h c => ⟨(h c).1.trans (Cert.Kernel2Ideal.Hand.result_eq m c), (h c).2⟩)
      (Cert.Kernel2Ideal.Value.run (F := Ideal) m ρ)
  · refine (θ_run Cert.Reference2Ideal.defs _ _).mono (fun r h c => ⟨(h c).1.trans ?_, (h c).2⟩) (Cert.Reference2Ideal.Value.run (F := Ideal) m' ρ')
    obtain ⟨e0, e1, e2⟩ := hm c
    rw [e0, e1, e2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.KernelIdeal.Hand.preFacts,
  Cert.KernelIdeal.Hand.frame_printed, frame_ideal, fun m ρ _ => frame_ideal m ρ trivial, frame_reference, fun m ρ _ => frame_reference m ρ trivial,
  Cert.Kernel2Ideal.Hand.frame_printed, frame_ideal2, frame_reference2,
  trivial, algebraic, trivial, algebraic2⟩

end Cert.Proof

end
